-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xC61C4000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x64x64 : Shape := ⟨4, ![8, 256, 64, 64]⟩
abbrev S256x256 : Shape := ⟨2, ![256, 256]⟩
abbrev S512x256 : Shape := ⟨2, ![512, 256]⟩
abbrev S256 : Shape := ⟨1, ![256]⟩
abbrev S31x64 : Shape := ⟨2, ![31, 64]⟩
abbrev S1024x256 : Shape := ⟨2, ![1024, 256]⟩
abbrev S1024 : Shape := ⟨1, ![1024]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  slices_S512x256_S256x256_0_0 : S512x256.Slices ![0, 0] S256x256
  bcast_S_S31x64 : S_.BroadcastsInDim S31x64 (![] : Fin 0 → Fin S31x64.rank)
  reducesTo_S31x64_S_d0_1 : S31x64.ReducesTo [0, 1] S_

variable [Facts]

def fn_part1 {F : FTy → Type} [FloatOps F] (main_arg6 : FVec F S31x64 .f32) (main_v14 : IVec S_ 1) (main_v15 : FVec F S31x64 .f32) (main_v16 : FVec F S31x64 .f32) : IVec S_ 1 :=
  let main_v17 : IVec S31x64 1 := cmpf .olt main_v15 main_v16
  let main_c_5 : IVec S_ 1 := constantI S_ 1 1#1
  let main_v18 : IVec S_ 1 := (fun x v => Host.reduce IntOp.andi x v reducesTo_S31x64_S_d0_1 h_S_) main_v17 main_c_5
  let main_v19 : IVec S_ 1 := andi main_v14 main_v18
  let main_v20 : FVec F S31x64 .f32 := Host.absf main_arg6
  let main_cst_6 : FVec F S_ .f32 := constant S_ .f32 0x7F800000#32
  let main_v21 : FVec F S31x64 .f32 := broadcastInDim S31x64 ![] bcast_S_S31x64 main_cst_6
  let main_v22 : IVec S31x64 1 := cmpf .olt main_v20 main_v21
  let main_c_7 : IVec S_ 1 := constantI S_ 1 1#1
  let main_v23 : IVec S_ 1 := (fun x v => Host.reduce IntOp.andi x v reducesTo_S31x64_S_d0_1 h_S_) main_v22 main_c_7
  let main_v24 : IVec S_ 1 := andi main_v19 main_v23
  main_v24

def fn {F : FTy → Type} [FloatOps F] (main_arg0 : FVec F S8x256x64x64 .f32) (main_arg1 : FVec F S256x256 .f32) (main_arg2 : FVec F S512x256 .f32) (main_arg3 : FVec F S256x256 .f32) (main_arg4 : FVec F S256 .f32) (main_arg5 : FVec F S31x64 .f32) (main_arg6 : FVec F S31x64 .f32) (main_arg7 : FVec F S1024x256 .f32) (main_arg8 : FVec F S1024 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := (extractStridedSlice S256x256 ![0, 0] · slices_S512x256_S256x256_0_0) main_arg2
  let main_v10 : FVec F S256x256 .f32 := Host.absf main_v9
  let main_cst_2 : FVec F S_ .f32 := constant S_ .f32 0x7F800000#32
  let main_v11 : FVec F S256x256 .f32 := broadcastInDim S256x256 ![] bcast_S_S256x256 main_cst_2
  let main_v12 : IVec S256x256 1 := cmpf .olt main_v10 main_v11
  let main_c_3 : IVec S_ 1 := constantI S_ 1 1#1
  let main_v13 : IVec S_ 1 := (fun x v => Host.reduce IntOp.andi x v reducesTo_S256x256_S_d0_1 h_S_) main_v12 main_c_3
  let main_v14 : IVec S_ 1 := andi main_v8 main_v13
  let main_v15 : FVec F S31x64 .f32 := Host.absf main_arg5
  let main_cst_4 : FVec F S_ .f32 := constant S_ .f32 0x7F800000#32
  let main_v16 : FVec F S31x64 .f32 := broadcastInDim S31x64 ![] bcast_S_S31x64 main_cst_4
  fn_part1 (F := F) main_arg6 main_v14 main_v15 main_v16
-- ==== Kernel.lean ====
abbrev S8x256x64x64 : Shape := ⟨4, ![8, 256, 64, 64]⟩
abbrev S256x256 : Shape := ⟨2, ![256, 256]⟩
abbrev S512x256 : Shape := ⟨2, ![512, 256]⟩
abbrev S256 : Shape := ⟨1, ![256]⟩
abbrev S31x64 : Shape := ⟨2, ![31, 64]⟩
abbrev S1024x256 : Shape := ⟨2, ![1024, 256]⟩
abbrev S1024 : Shape := ⟨1, ![1024]⟩
abbrev S8x64x64x256 : Shape := ⟨4, ![8, 64, 64, 256]⟩
abbrev S_ : Shape := ⟨0, ![]⟩
abbrev S8x72x80x256 : Shape := ⟨4, ![8, 72, 80, 256]⟩
abbrev S16 : Shape := ⟨1, ![16]⟩
abbrev S1x16 : Shape := ⟨2, ![1, 16]⟩
abbrev S8 : Shape := ⟨1, ![8]⟩
abbrev S8x1 : Shape := ⟨2, ![8, 1]⟩
abbrev S8x16 : Shape := ⟨2, ![8, 16]⟩
abbrev S8x16x1 : Shape := ⟨3, ![8, 16, 1]⟩
abbrev S8x16x64 : Shape := ⟨3, ![8, 16, 64]⟩
abbrev S64x8x16 : Shape := ⟨3, ![64, 8, 16]⟩
abbrev S64x128 : Shape := ⟨2, ![64, 128]⟩
abbrev S64x256 : Shape := ⟨2, ![64, 256]⟩
abbrev S512 : Shape := ⟨1, ![512]⟩
abbrev S128 : Shape := ⟨1, ![128]⟩
abbrev S512x1 : Shape := ⟨2, ![512, 1]⟩
abbrev S1x128 : Shape := ⟨2, ![1, 128]⟩
abbrev S512x128 : Shape := ⟨2, ![512, 128]⟩
abbrev S1x256 : Shape := ⟨2, ![1, 256]⟩
abbrev S128x1 : Shape := ⟨2, ![128, 1]⟩
abbrev S128x256 : Shape := ⟨2, ![128, 256]⟩
abbrev S256x512 : Shape := ⟨2, ![256, 512]⟩
abbrev S256x1024 : Shape := ⟨2, ![256, 1024]⟩
abbrev S1x1024 : Shape := ⟨2, ![1, 1024]⟩
abbrev S8x8x8x64x1024 : Shape := ⟨5, ![8, 8, 8, 64, 1024]⟩
abbrev S1x8x80x256 : Shape := ⟨4, ![1, 8, 80, 256]⟩
abbrev S1x1x8x64x1024 : Shape := ⟨5, ![1, 1, 8, 64, 1024]⟩
abbrev S8x80x256 : Shape := ⟨3, ![8, 80, 256]⟩
abbrev S16x80x256 : Shape := ⟨3, ![16, 80, 256]⟩
abbrev S1280x256 : Shape := ⟨2, ![1280, 256]⟩
abbrev S1280x512 : Shape := ⟨2, ![1280, 512]⟩
abbrev S16x80x512 : Shape := ⟨3, ![16, 80, 512]⟩
abbrev S8x64x256 : Shape := ⟨3, ![8, 64, 256]⟩
abbrev S512x64 : Shape := ⟨2, ![512, 64]⟩
abbrev S16x16x512 : Shape := ⟨3, ![16, 16, 512]⟩
abbrev S8x8x8x64 : Shape := ⟨4, ![8, 8, 8, 64]⟩
abbrev S8x1x8x64 : Shape := ⟨4, ![8, 1, 8, 64]⟩
abbrev S8x8x64 : Shape := ⟨3, ![8, 8, 64]⟩
abbrev S64x64 : Shape := ⟨2, ![64, 64]⟩
abbrev S256x64 : Shape := ⟨2, ![256, 64]⟩
abbrev S8x8x8x256 : Shape := ⟨4, ![8, 8, 8, 256]⟩
abbrev S8x1x8x256 : Shape := ⟨4, ![8, 1, 8, 256]⟩
abbrev S8x8x256 : Shape := ⟨3, ![8, 8, 256]⟩
abbrev S64 : Shape := ⟨1, ![64]⟩
abbrev S64x1 : Shape := ⟨2, ![64, 1]⟩
abbrev S512x1024 : Shape := ⟨2, ![512, 1024]⟩
abbrev S64x1024 : Shape := ⟨2, ![64, 1024]⟩
abbrev S8x8x1024 : Shape := ⟨3, ![8, 8, 1024]⟩
abbrev S1x1x8x8x1024 : Shape := ⟨5, ![1, 1, 8, 8, 1024]⟩
abbrev S8x8x8x64x256x2x2 : Shape := ⟨7, ![8, 8, 8, 64, 256, 2, 2]⟩
abbrev S8x256x8x8x2x64x2 : Shape := ⟨7, ![8, 256, 8, 8, 2, 64, 2]⟩
abbrev S8x256x128x128 : Shape := ⟨4, ![8, 256, 128, 128]⟩

abbrev nBuf : Space → Nat
  | .hbm => 234
  | .vmem => 15
  | .smem => 0
  | _ => 0

abbrev hbmTy0_0 (i : Nat) : BufTy := match i % 128 with
  | 0 => ⟨S8x256x64x64, .f32⟩
  | 1 => ⟨S256x256, .f32⟩
  | 2 => ⟨S512x256, .f32⟩
  | 3 => ⟨S256x256, .f32⟩
  | 4 => ⟨S256, .f32⟩
  | 5 => ⟨S31x64, .f32⟩
  | 6 => ⟨S31x64, .f32⟩
  | 7 => ⟨S1024x256, .f32⟩
  | 8 => ⟨S1024, .f32⟩
  | 9 => ⟨S8x64x64x256, .f32⟩
  | 10 => ⟨S_, .i32⟩
  | 11 => ⟨S_, .f32⟩
  | 12 => ⟨S8x72x80x256, .f32⟩
  | 13 => ⟨S8x72x80x256, .bf16⟩
  | 14 => ⟨S16, .i32⟩
  | 15 => ⟨S1x16, .i32⟩
  | 16 => ⟨S8, .i32⟩
  | 17 => ⟨S8x1, .i32⟩
  | 18 => ⟨S8x16, .i32⟩
  | 19 => ⟨S8x16, .i32⟩
  | 20 => ⟨S8x16, .i32⟩
  | 21 => ⟨S_, .i32⟩
  | 22 => ⟨S8x16, .i32⟩
  | 23 => ⟨S8x16, .i32⟩
  | 24 => ⟨S_, .i32⟩
  | 25 => ⟨S8x16, .i32⟩
  | 26 => ⟨S8x16, .i1⟩
  | 27 => ⟨S_, .i32⟩
  | 28 => ⟨S8x16, .i32⟩
  | 29 => ⟨S8x16, .i32⟩
  | 30 => ⟨S8x16, .i32⟩
  | 31 => ⟨S8x16x1, .i32⟩
  | 32 => ⟨S8x16x64, .f32⟩
  | 33 => ⟨S64x8x16, .f32⟩
  | 34 => ⟨S64x128, .f32⟩
  | 35 => ⟨S_, .i32⟩
  | 36 => ⟨S8x16, .i32⟩
  | 37 => ⟨S8x16, .i1⟩
  | 38 => ⟨S_, .i32⟩
  | 39 => ⟨S8x16, .i32⟩
  | 40 => ⟨S8x16, .i32⟩
  | 41 => ⟨S8x16, .i32⟩
  | 42 => ⟨S8x16x1, .i32⟩
  | 43 => ⟨S8x16x64, .f32⟩
  | 44 => ⟨S64x8x16, .f32⟩
  | 45 => ⟨S64x128, .f32⟩
  | 46 => ⟨S64x256, .f32⟩
  | 47 => ⟨S64x256, .bf16⟩
  | 48 => ⟨S512, .i32⟩
  | 49 => ⟨S128, .i32⟩
  | 50 => ⟨S_, .i32⟩
  | 51 => ⟨S_, .i32⟩
  | 52 => ⟨S128, .i32⟩
  | 53 => ⟨S128, .i32⟩
  | 54 => ⟨S128, .i32⟩
  | 55 => ⟨S_, .i32⟩
  | 56 => ⟨S128, .i32⟩
  | 57 => ⟨S128, .i1⟩
  | 58 => ⟨S128, .i32⟩
  | 59 => ⟨S128, .i32⟩
  | 60 => ⟨S_, .i32⟩
  | 61 => ⟨S128, .i32⟩
  | 62 => ⟨S128, .i1⟩
  | 63 => ⟨S128, .i1⟩
  | 64 => ⟨S_, .i32⟩
  | 65 => ⟨S128, .i32⟩
  | 66 => ⟨S128, .i32⟩
  | 67 => ⟨S128, .i32⟩
  | 68 => ⟨S512x1, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S512x1, .i32⟩
  | 76 => ⟨S512x1, .i32⟩
  | 77 => ⟨S_, .i32⟩
  | 78 => ⟨S512x1, .i32⟩
  | 79 => ⟨S512x1, .i1⟩
  | 80 => ⟨S_, .i32⟩
  | 81 => ⟨S512x1, .i32⟩
  | 82 => ⟨S512x1, .i1⟩
  | 83 => ⟨S_, .i32⟩
  | 84 => ⟨S_, .i1⟩
  | 85 => ⟨S512x1, .i1⟩
  | 86 => ⟨S512x1, .i1⟩
  | 87 => ⟨S512x1, .i1⟩
  | 88 => ⟨S512x1, .i32⟩
  | 89 => ⟨S512x1, .i32⟩
  | 90 => ⟨S512x1, .i32⟩
  | 91 => ⟨S1x128, .i32⟩
  | 92 => ⟨S512x128, .i32⟩
  | 93 => ⟨S512x128, .i32⟩
  | 94 => ⟨S512x128, .i1⟩
  | 95 => ⟨S512x1, .i32⟩
  | 96 => ⟨S_, .i32⟩
  | 97 => ⟨S_, .i32⟩
  | 98 => ⟨S512x1, .i32⟩
  | 99 => ⟨S512x1, .i32⟩
  | 100 => ⟨S512x1, .i32⟩
  | 101 => ⟨S_, .i32⟩
  | 102 => ⟨S512x1, .i32⟩
  | 103 => ⟨S512x1, .i1⟩
  | 104 => ⟨S512x1, .i32⟩
  | 105 => ⟨S512x1, .i32⟩
  | 106 => ⟨S_, .i32⟩
  | 107 => ⟨S512x1, .i32⟩
  | 108 => ⟨S512x1, .i1⟩
  | 109 => ⟨S512x1, .i1⟩
  | 110 => ⟨S_, .i32⟩
  | 111 => ⟨S512x1, .i32⟩
  | 112 => ⟨S512x1, .i32⟩
  | 113 => ⟨S512x1, .i32⟩
  | 114 => ⟨S1x128, .i32⟩
  | 115 => ⟨S512x128, .i32⟩
  | 116 => ⟨S512x128, .i32⟩
  | 117 => ⟨S512x128, .i1⟩
  | 118 => ⟨S512x256, .i1⟩
  | 119 => ⟨S512x256, .bf16⟩
  | 120 => ⟨S256, .i32⟩
  | 121 => ⟨S1x256, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S8x256x64x64, .f32⟩

abbrev hbmTy0_1 (i : Nat) : BufTy := match i % 128 with
  | 0 => ⟨S1x256, .i32⟩
  | 1 => ⟨S1x256, .i32⟩
  | 2 => ⟨S_, .i32⟩
  | 3 => ⟨S1x256, .i32⟩
  | 4 => ⟨S1x256, .i1⟩
  | 5 => ⟨S_, .i32⟩
  | 6 => ⟨S1x256, .i32⟩
  | 7 => ⟨S1x256, .i1⟩
  | 8 => ⟨S_, .i32⟩
  | 9 => ⟨S_, .i1⟩
  | 10 => ⟨S1x256, .i1⟩
  | 11 => ⟨S1x256, .i1⟩
  | 12 => ⟨S1x256, .i1⟩
  | 13 => ⟨S1x256, .i32⟩
  | 14 => ⟨S1x256, .i32⟩
  | 15 => ⟨S1x256, .i32⟩
  | 16 => ⟨S128, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S128, .i32⟩
  | 24 => ⟨S128, .i32⟩
  | 25 => ⟨S_, .i32⟩
  | 26 => ⟨S128, .i32⟩
  | 27 => ⟨S128, .i1⟩
  | 28 => ⟨S_, .i32⟩
  | 29 => ⟨S128, .i32⟩
  | 30 => ⟨S128, .i1⟩
  | 31 => ⟨S_, .i32⟩
  | 32 => ⟨S_, .i1⟩
  | 33 => ⟨S128, .i1⟩
  | 34 => ⟨S128, .i1⟩
  | 35 => ⟨S128, .i1⟩
  | 36 => ⟨S128, .i32⟩
  | 37 => ⟨S128, .i32⟩
  | 38 => ⟨S128, .i32⟩
  | 39 => ⟨S128x1, .i32⟩
  | 40 => ⟨S128x256, .i32⟩
  | 41 => ⟨S128x256, .i32⟩
  | 42 => ⟨S128x256, .i1⟩
  | 43 => ⟨S1x256, .i32⟩
  | 44 => ⟨S_, .i32⟩
  | 45 => ⟨S_, .i32⟩
  | 46 => ⟨S1x256, .i32⟩
  | 47 => ⟨S1x256, .i32⟩
  | 48 => ⟨S1x256, .i32⟩
  | 49 => ⟨S_, .i32⟩
  | 50 => ⟨S1x256, .i32⟩
  | 51 => ⟨S1x256, .i1⟩
  | 52 => ⟨S1x256, .i32⟩
  | 53 => ⟨S1x256, .i32⟩
  | 54 => ⟨S_, .i32⟩
  | 55 => ⟨S1x256, .i32⟩
  | 56 => ⟨S1x256, .i1⟩
  | 57 => ⟨S1x256, .i1⟩
  | 58 => ⟨S_, .i32⟩
  | 59 => ⟨S1x256, .i32⟩
  | 60 => ⟨S1x256, .i32⟩
  | 61 => ⟨S1x256, .i32⟩
  | 62 => ⟨S128, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S128, .i32⟩
  | 70 => ⟨S128, .i32⟩
  | 71 => ⟨S_, .i32⟩
  | 72 => ⟨S128, .i32⟩
  | 73 => ⟨S128, .i1⟩
  | 74 => ⟨S_, .i32⟩
  | 75 => ⟨S128, .i32⟩
  | 76 => ⟨S128, .i1⟩
  | 77 => ⟨S_, .i32⟩
  | 78 => ⟨S_, .i1⟩
  | 79 => ⟨S128, .i1⟩
  | 80 => ⟨S128, .i1⟩
  | 81 => ⟨S128, .i1⟩
  | 82 => ⟨S128, .i32⟩
  | 83 => ⟨S128, .i32⟩
  | 84 => ⟨S128, .i32⟩
  | 85 => ⟨S128x1, .i32⟩
  | 86 => ⟨S128x256, .i32⟩
  | 87 => ⟨S128x256, .i32⟩
  | 88 => ⟨S128x256, .i1⟩
  | 89 => ⟨S256x256, .i1⟩
  | 90 => ⟨S256x256, .bf16⟩
  | 91 => ⟨S256x256, .f32⟩
  | 92 => ⟨S256x256, .bf16⟩
  | 93 => ⟨S256x512, .f32⟩
  | 94 => ⟨S256x512, .bf16⟩
  | 95 => ⟨S256x256, .f32⟩
  | 96 => ⟨S256x256, .bf16⟩
  | 97 => ⟨S1x256, .f32⟩
  | 98 => ⟨S256x1024, .f32⟩
  | 99 => ⟨S256x1024, .bf16⟩
  | 100 => ⟨S1x1024, .f32⟩
  | 101 => ⟨S8x8x8x64x1024, .bf16⟩
  | 102 => ⟨S8x8x8x64x256x2x2, .bf16⟩
  | 103 => ⟨S8x256x8x8x2x64x2, .bf16⟩
  | 104 => ⟨S8x256x128x128, .bf16⟩
  | 105 => ⟨S8x256x128x128, .f32⟩
  | _ => ⟨S8x256x64x64, .f32⟩

abbrev hbmTy (i : Nat) : BufTy := match i / 128 with
  | 0 => hbmTy0_0 i
  | 1 => hbmTy0_1 i
  | _ => ⟨S8x256x64x64, .f32⟩

abbrev bufTy : (tb : Table) → Fin (tcTables nBuf tb) → BufTy
  | .hbm, ⟨i, _⟩ => hbmTy i
  | .local _ .vmem, ⟨0, _⟩ => ⟨S1x8x80x256, .bf16⟩
  | .local _ .vmem, ⟨1, _⟩ => ⟨S1x8x80x256, .bf16⟩
  | .local _ .vmem, ⟨2, _⟩ => ⟨S1x8x80x256, .bf16⟩
  | .local _ .vmem, ⟨3, _⟩ => ⟨S1x8x80x256, .bf16⟩
  | .local _ .vmem, ⟨4, _⟩ => ⟨S256x256, .bf16⟩
  | .local _ .vmem, ⟨5, _⟩ => ⟨S256x512, .bf16⟩
  | .local _ .vmem, ⟨6, _⟩ => ⟨S256x256, .bf16⟩
  | .local _ .vmem, ⟨7, _⟩ => ⟨S1x256, .f32⟩
  | .local _ .vmem, ⟨8, _⟩ => ⟨S64x256, .bf16⟩
  | .local _ .vmem, ⟨9, _⟩ => ⟨S512x256, .bf16⟩
  | .local _ .vmem, ⟨10, _⟩ => ⟨S256x256, .bf16⟩
  | .local _ .vmem, ⟨11, _⟩ => ⟨S256x1024, .bf16⟩
  | .local _ .vmem, ⟨12, _⟩ => ⟨S1x1024, .f32⟩
  | .local _ .vmem, ⟨13, _⟩ => ⟨S1x1x8x64x1024, .bf16⟩
  | .local _ .vmem, ⟨14, _⟩ => ⟨S1x1x8x64x1024, .bf16⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v34 : Ref sig .tc := ⟨.hbm, 67, rfl⟩
abbrev main_v35 : Ref sig .tc := ⟨.hbm, 68, rfl⟩
abbrev main_c_6 : Ref sig .tc := ⟨.hbm, 69, rfl⟩
abbrev main_call2_v0 : Ref sig .tc := ⟨.hbm, 70, rfl⟩
abbrev main_call2_c : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_1 : Ref sig .tc := ⟨.hbm, 77, rfl⟩
abbrev main_call2_v5 : Ref sig .tc := ⟨.hbm, 78, rfl⟩
abbrev main_call2_v6 : Ref sig .tc := ⟨.hbm, 79, rfl⟩
abbrev main_call2_c_2 : Ref sig .tc := ⟨.hbm, 80, rfl⟩
abbrev main_call2_v7 : Ref sig .tc := ⟨.hbm, 81, rfl⟩
abbrev main_call2_v8 : Ref sig .tc := ⟨.hbm, 82, rfl⟩
abbrev main_call2_c_3 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_c_7 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_c : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_0 : Ref sig .tc := ⟨.hbm, 110, rfl⟩
abbrev main_call3_v12 : Ref sig .tc := ⟨.hbm, 111, rfl⟩
abbrev main_call3_v13 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_c_8 : Ref sig .tc := ⟨.hbm, 122, rfl⟩
abbrev main_call4_v0 : Ref sig .tc := ⟨.hbm, 123, rfl⟩
abbrev main_call4_c : Ref sig .tc := ⟨.hbm, 124, rfl⟩
abbrev main_call4_v1 : Ref sig .tc := ⟨.hbm, 125, rfl⟩
abbrev main_call4_c_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_c_1 : Ref sig .tc := ⟨.hbm, 130, rfl⟩
abbrev main_call4_v5 : Ref sig .tc := ⟨.hbm, 131, rfl⟩
abbrev main_call4_v6 : Ref sig .tc := ⟨.hbm, 132, rfl⟩
abbrev main_call4_c_2 : Ref sig .tc := ⟨.hbm, 133, rfl⟩
abbrev main_call4_v7 : Ref sig .tc := ⟨.hbm, 134, rfl⟩
abbrev main_call4_v8 : Ref sig .tc := ⟨.hbm, 135, rfl⟩
abbrev main_call4_c_3 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_v12 : Ref sig .tc := ⟨.hbm, 140, rfl⟩
abbrev main_call4_v13 : Ref sig .tc := ⟨.hbm, 141, rfl⟩
abbrev main_call4_v14 : Ref sig .tc := ⟨.hbm, 142, rfl⟩
abbrev main_v51 : Ref sig .tc := ⟨.hbm, 143, rfl⟩
abbrev main_v52 : Ref sig .tc := ⟨.hbm, 144, rfl⟩
abbrev main_c_9 : Ref sig .tc := ⟨.hbm, 145, rfl⟩
abbrev main_call5_v0 : Ref sig .tc := ⟨.hbm, 146, rfl⟩
abbrev main_call5_c : Ref sig .tc := ⟨.hbm, 147, rfl⟩
abbrev main_call5_v1 : Ref sig .tc := ⟨.hbm, 148, rfl⟩
abbrev main_call5_c_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_c_1 : Ref sig .tc := ⟨.hbm, 153, rfl⟩
abbrev main_call5_v5 : Ref sig .tc := ⟨.hbm, 154, rfl⟩
abbrev main_call5_v6 : Ref sig .tc := ⟨.hbm, 155, rfl⟩
abbrev main_call5_c_2 : Ref sig .tc := ⟨.hbm, 156, rfl⟩
abbrev main_call5_v7 : Ref sig .tc := ⟨.hbm, 157, rfl⟩
abbrev main_call5_v8 : Ref sig .tc := ⟨.hbm, 158, rfl⟩
abbrev main_call5_c_3 : Ref sig .tc := ⟨.hbm, 159, rfl⟩
abbrev main_call5_v9 : Ref sig .tc := ⟨.hbm, 160, rfl⟩
abbrev main_call5_v10 : Ref sig .tc := ⟨.hbm, 161, rfl⟩
abbrev main_call5_v11 : Ref sig .tc := ⟨.hbm, 162, rfl⟩
abbrev main_call5_v12 : Ref sig .tc := ⟨.hbm, 163, rfl⟩
abbrev main_call5_v13 : Ref sig .tc := ⟨.hbm, 164, rfl⟩
abbrev main_call5_v14 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_c_10 : Ref sig .tc := ⟨.hbm, 172, rfl⟩
abbrev main_call6_v0 : Ref sig .tc := ⟨.hbm, 173, rfl⟩
abbrev main_call6_v1 : Ref sig .tc := ⟨.hbm, 174, rfl⟩
abbrev main_call6_v2 : Ref sig .tc := ⟨.hbm, 175, rfl⟩
abbrev main_call6_v3 : Ref sig .tc := ⟨.hbm, 176, rfl⟩
abbrev main_call6_v4 : Ref sig .tc := ⟨.hbm, 177, rfl⟩
abbrev main_call6_v5 : Ref sig .tc := ⟨.hbm, 178, rfl⟩
abbrev main_call6_v6 : Ref sig .tc := ⟨.hbm, 179, rfl⟩
abbrev main_call6_v7 : Ref sig .tc := ⟨.hbm, 180, rfl⟩
abbrev main_call6_v8 : Ref sig .tc := ⟨.hbm, 181, rfl⟩
abbrev main_call6_c : Ref sig .tc := ⟨.hbm, 182, rfl⟩
abbrev main_call6_v9 : Ref sig .tc := ⟨.hbm, 183, rfl⟩
abbrev main_call6_v10 : Ref sig .tc := ⟨.hbm, 184, rfl⟩
abbrev main_call6_v11 : Ref sig .tc := ⟨.hbm, 185, rfl⟩
abbrev main_call6_c_0 : Ref sig .tc := ⟨.hbm, 186, rfl⟩
abbrev main_call6_v12 : Ref sig .tc := ⟨.hbm, 187, rfl⟩
abbrev main_call6_v13 : Ref sig .tc := ⟨.hbm, 188, rfl⟩
abbrev main_v59 : Ref sig .tc := ⟨.hbm, 189, rfl⟩
abbrev main_v60 : Ref sig .tc := ⟨.hbm, 190, rfl⟩
abbrev main_c_11 : Ref sig .tc := ⟨.hbm, 191, rfl⟩
abbrev main_call7_v0 : Ref sig .tc := ⟨.hbm, 192, rfl⟩
abbrev main_call7_c : Ref sig .tc := ⟨.hbm, 193, rfl⟩
abbrev main_call7_v1 : Ref sig .tc := ⟨.hbm, 194, rfl⟩
abbrev main_call7_c_0 : Ref sig .tc := ⟨.hbm, 195, rfl⟩
abbrev main_call7_v2 : Ref sig .tc := ⟨.hbm, 196, rfl⟩
abbrev main_call7_v3 : Ref sig .tc := ⟨.hbm, 197, rfl⟩
abbrev main_call7_v4 : Ref sig .tc := ⟨.hbm, 198, rfl⟩
abbrev main_call7_c_1 : Ref sig .tc := ⟨.hbm, 199, rfl⟩
abbrev main_call7_v5 : Ref sig .tc := ⟨.hbm, 200, rfl⟩
abbrev main_call7_v6 : Ref sig .tc := ⟨.hbm, 201, rfl⟩
abbrev main_call7_c_2 : Ref sig .tc := ⟨.hbm, 202, rfl⟩
abbrev main_call7_v7 : Ref sig .tc := ⟨.hbm, 203, rfl⟩
abbrev main_call7_v8 : Ref sig .tc := ⟨.hbm, 204, rfl⟩
abbrev main_call7_c_3 : Ref sig .tc := ⟨.hbm, 205, rfl⟩
abbrev main_call7_v9 : Ref sig .tc := ⟨.hbm, 206, rfl⟩
abbrev main_call7_v10 : Ref sig .tc := ⟨.hbm, 207, rfl⟩
abbrev main_call7_v11 : Ref sig .tc := ⟨.hbm, 208, rfl⟩
abbrev main_call7_v12 : Ref sig .tc := ⟨.hbm, 209, rfl⟩
abbrev main_call7_v13 : Ref sig .tc := ⟨.hbm, 210, rfl⟩
abbrev main_call7_v14 : Ref sig .tc := ⟨.hbm, 211, rfl⟩
abbrev main_v61 : Ref sig .tc := ⟨.hbm, 212, rfl⟩
abbrev main_v62 : Ref sig .tc := ⟨.hbm, 213, rfl⟩
abbrev main_v63 : Ref sig .tc := ⟨.hbm, 214, rfl⟩
abbrev main_v64 : Ref sig .tc := ⟨.hbm, 215, rfl⟩
abbrev main_v65 : Ref sig .tc := ⟨.hbm, 216, rfl⟩
abbrev main_v66 : Ref sig .tc := ⟨.hbm, 217, rfl⟩
abbrev main_v67 : Ref sig .tc := ⟨.hbm, 218, rfl⟩
abbrev main_v68 : Ref sig .tc := ⟨.hbm, 219, rfl⟩
abbrev main_v69 : Ref sig .tc := ⟨.hbm, 220, rfl⟩
abbrev main_v70 : Ref sig .tc := ⟨.hbm, 221, rfl⟩
abbrev main_v71 : Ref sig .tc := ⟨.hbm, 222, rfl⟩
abbrev main_v72 : Ref sig .tc := ⟨.hbm, 223, rfl⟩
abbrev main_v73 : Ref sig .tc := ⟨.hbm, 224, rfl⟩
abbrev main_v74 : Ref sig .tc := ⟨.hbm, 225, rfl⟩
abbrev main_v75 : Ref sig .tc := ⟨.hbm, 226, rfl⟩
abbrev main_v76 : Ref sig .tc := ⟨.hbm, 227, rfl⟩
abbrev main_v77 : Ref sig .tc := ⟨.hbm, 228, rfl⟩
abbrev main_v78 : Ref sig .tc := ⟨.hbm, 229, rfl⟩
abbrev main_v79 : Ref sig .tc := ⟨.hbm, 230, rfl⟩
abbrev main_v80 : Ref sig .tc := ⟨.hbm, 231, rfl⟩
abbrev main_v81 : Ref sig .tc := ⟨.hbm, 232, rfl⟩
abbrev main_v82 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

abbrev stage0_0 : Fin 2 → Memref sig .tc .vmem S1x8x80x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x80x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x8x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8x256x64x64 : Shape := ⟨4, ![8, 256, 64, 64]⟩
abbrev S256x256 : Shape := ⟨2, ![256, 256]⟩
abbrev S512x256 : Shape := ⟨2, ![512, 256]⟩
abbrev S256 : Shape := ⟨1, ![256]⟩
abbrev S31x64 : Shape := ⟨2, ![31, 64]⟩
abbrev S1024x256 : Shape := ⟨2, ![1024, 256]⟩
abbrev S1024 : Shape := ⟨1, ![1024]⟩
abbrev S8x256x8x8x8x8 : Shape := ⟨6, ![8, 256, 8, 8, 8, 8]⟩
abbrev S8x8x8x8x8x256 : Shape := ⟨6, ![8, 8, 8, 8, 8, 256]⟩
abbrev S512x64x256 : Shape := ⟨3, ![512, 64, 256]⟩
abbrev S_ : Shape := ⟨0, ![]⟩
abbrev S8x256x72x72 : Shape := ⟨4, ![8, 256, 72, 72]⟩
abbrev S8 : Shape := ⟨1, ![8]⟩
abbrev S8x1 : Shape := ⟨2, ![8, 1]⟩
abbrev S16 : Shape := ⟨1, ![16]⟩
abbrev S1x16 : Shape := ⟨2, ![1, 16]⟩
abbrev S8x16 : Shape := ⟨2, ![8, 16]⟩
abbrev S8x16x1 : Shape := ⟨3, ![8, 16, 1]⟩
abbrev S8x256x8x16x72 : Shape := ⟨5, ![8, 256, 8, 16, 72]⟩
abbrev S8x256x8x16x8x16 : Shape := ⟨6, ![8, 256, 8, 16, 8, 16]⟩
abbrev S8x8x8x16x16x256 : Shape := ⟨6, ![8, 8, 8, 16, 16, 256]⟩
abbrev S512x256x256 : Shape := ⟨3, ![512, 256, 256]⟩
abbrev S512x64x4x64 : Shape := ⟨4, ![512, 64, 4, 64]⟩
abbrev S512x4x64x64 : Shape := ⟨4, ![512, 4, 64, 64]⟩
abbrev S256x512 : Shape := ⟨2, ![256, 512]⟩
abbrev S512x256x512 : Shape := ⟨3, ![512, 256, 512]⟩
abbrev S512x256x4x64 : Shape := ⟨4, ![512, 256, 4, 64]⟩
abbrev S512x4x256x64 : Shape := ⟨4, ![512, 4, 256, 64]⟩
abbrev S512x4x64x256 : Shape := ⟨4, ![512, 4, 64, 256]⟩
abbrev S512x4x8x8x64 : Shape := ⟨5, ![512, 4, 8, 8, 64]⟩
abbrev S8x16x64 : Shape := ⟨3, ![8, 16, 64]⟩
abbrev S8x16x512x4x8 : Shape := ⟨5, ![8, 16, 512, 4, 8]⟩
abbrev S512x4x8x8x16 : Shape := ⟨5, ![512, 4, 8, 8, 16]⟩
abbrev S512x4x8x8x16x16 : Shape := ⟨6, ![512, 4, 8, 8, 16, 16]⟩
abbrev S512x4x8x8x1x16 : Shape := ⟨6, ![512, 4, 8, 8, 1, 16]⟩
abbrev S512x4x8x8x16x1 : Shape := ⟨6, ![512, 4, 8, 8, 16, 1]⟩
abbrev S64x64 : Shape := ⟨2, ![64, 64]⟩
abbrev S72x72 : Shape := ⟨2, ![72, 72]⟩
abbrev S8x16x72 : Shape := ⟨3, ![8, 16, 72]⟩
abbrev S8x16x8x16 : Shape := ⟨4, ![8, 16, 8, 16]⟩
abbrev S8x8x16x16 : Shape := ⟨4, ![8, 8, 16, 16]⟩
abbrev S64x256 : Shape := ⟨2, ![64, 256]⟩
abbrev S1x64x256 : Shape := ⟨3, ![1, 64, 256]⟩
abbrev S8x64x256 : Shape := ⟨3, ![8, 64, 256]⟩
abbrev S512x1x1x256 : Shape := ⟨4, ![512, 1, 1, 256]⟩
abbrev S512x4x64 : Shape := ⟨3, ![512, 4, 64]⟩
abbrev S512x4x64x1 : Shape := ⟨4, ![512, 4, 64, 1]⟩
abbrev S1x1x256 : Shape := ⟨3, ![1, 1, 256]⟩
abbrev S1024x8x64x64 : Shape := ⟨4, ![1024, 8, 64, 64]⟩
abbrev S8x1024x64x64 : Shape := ⟨4, ![8, 1024, 64, 64]⟩
abbrev S1x1024x1x1 : Shape := ⟨4, ![1, 1024, 1, 1]⟩
abbrev S8x256x2x2x64x64 : Shape := ⟨6, ![8, 256, 2, 2, 64, 64]⟩
abbrev S8x256x64x2x64x2 : Shape := ⟨6, ![8, 256, 64, 2, 64, 2]⟩
abbrev S8x256x128x128 : Shape := ⟨4, ![8, 256, 128, 128]⟩

abbrev nBuf : Space → Nat
  | .hbm => 180
  | .vmem => 0
  | .smem => 0
  | _ => 0

abbrev hbmTy0_0 (i : Nat) : BufTy := match i % 128 with
  | 0 => ⟨S8x256x64x64, .f32⟩
  | 1 => ⟨S256x256, .f32⟩
  | 2 => ⟨S512x256, .f32⟩
  | 3 => ⟨S256x256, .f32⟩
  | 4 => ⟨S256, .f32⟩
  | 5 => ⟨S31x64, .f32⟩
  | 6 => ⟨S31x64, .f32⟩
  | 7 => ⟨S1024x256, .f32⟩
  | 8 => ⟨S1024, .f32⟩
  | 9 => ⟨S8x256x8x8x8x8, .f32⟩
  | 10 => ⟨S8x8x8x8x8x256, .f32⟩
  | 11 => ⟨S512x64x256, .f32⟩
  | 12 => ⟨S_, .i32⟩
  | 13 => ⟨S_, .f32⟩
  | 14 => ⟨S8x256x72x72, .f32⟩
  | 15 => ⟨S8, .i32⟩
  | 16 => ⟨S_, .i32⟩
  | 17 => ⟨S8, .i32⟩
  | 18 => ⟨S8, .i32⟩
  | 19 => ⟨S8x1, .i32⟩
  | 20 => ⟨S16, .i32⟩
  | 21 => ⟨S1x16, .i32⟩
  | 22 => ⟨S8x16, .i32⟩
  | 23 => ⟨S8x16, .i32⟩
  | 24 => ⟨S8x16, .i32⟩
  | 25 => ⟨S8, .i32⟩
  | 26 => ⟨S_, .i32⟩
  | 27 => ⟨S8, .i32⟩
  | 28 => ⟨S8, .i32⟩
  | 29 => ⟨S8x1, .i32⟩
  | 30 => ⟨S16, .i32⟩
  | 31 => ⟨S1x16, .i32⟩
  | 32 => ⟨S8x16, .i32⟩
  | 33 => ⟨S8x16, .i32⟩
  | 34 => ⟨S8x16, .i32⟩
  | 35 => ⟨S_, .i32⟩
  | 36 => ⟨S8x16, .i32⟩
  | 37 => ⟨S8x16, .i1⟩
  | 38 => ⟨S_, .i32⟩
  | 39 => ⟨S8x16, .i32⟩
  | 40 => ⟨S8x16, .i32⟩
  | 41 => ⟨S8x16, .i32⟩
  | 42 => ⟨S8x16x1, .i32⟩
  | 43 => ⟨S8x256x8x16x72, .f32⟩
  | 44 => ⟨S_, .i32⟩
  | 45 => ⟨S8x16, .i32⟩
  | 46 => ⟨S8x16, .i1⟩
  | 47 => ⟨S_, .i32⟩
  | 48 => ⟨S8x16, .i32⟩
  | 49 => ⟨S8x16, .i32⟩
  | 50 => ⟨S8x16, .i32⟩
  | 51 => ⟨S8x16x1, .i32⟩
  | 52 => ⟨S8x256x8x16x8x16, .f32⟩
  | 53 => ⟨S8x8x8x16x16x256, .f32⟩
  | 54 => ⟨S512x256x256, .f32⟩
  | 55 => ⟨S256x256, .f32⟩
  | 56 => ⟨S512x64x256, .f32⟩
  | 57 => ⟨S512x64x4x64, .f32⟩
  | 58 => ⟨S512x4x64x64, .f32⟩
  | 59 => ⟨S_, .f32⟩
  | 60 => ⟨S512x4x64x64, .f32⟩
  | 61 => ⟨S512x4x64x64, .f32⟩
  | 62 => ⟨S256x512, .f32⟩
  | 63 => ⟨S512x256x512, .f32⟩
  | 64 => ⟨S512x256x256, .f32⟩
  | 65 => ⟨S512x256x256, .f32⟩
  | 66 => ⟨S512x256x4x64, .f32⟩
  | 67 => ⟨S512x4x256x64, .f32⟩
  | 68 => ⟨S512x256x4x64, .f32⟩
  | 69 => ⟨S512x4x256x64, .f32⟩
  | 70 => ⟨S512x4x64x256, .f32⟩
  | 71 => ⟨S512x4x8x8x64, .f32⟩
  | 72 => ⟨S16, .i32⟩
  | 73 => ⟨S1x16, .i32⟩
  | 74 => ⟨S8, .i32⟩
  | 75 => ⟨S8x1, .i32⟩
  | 76 => ⟨S8x16, .i32⟩
  | 77 => ⟨S8x16, .i32⟩
  | 78 => ⟨S8x16, .i32⟩
  | 79 => ⟨S_, .i32⟩
  | 80 => ⟨S8x16, .i32⟩
  | 81 => ⟨S8x16, .i32⟩
  | 82 => ⟨S_, .i32⟩
  | 83 => ⟨S8x16, .i32⟩
  | 84 => ⟨S8x16, .i1⟩
  | 85 => ⟨S_, .i32⟩
  | 86 => ⟨S8x16, .i32⟩
  | 87 => ⟨S8x16, .i32⟩
  | 88 => ⟨S8x16, .i32⟩
  | 89 => ⟨S8x16x1, .i32⟩
  | 90 => ⟨S8x16x64, .f32⟩
  | 91 => ⟨S8x16x512x4x8, .f32⟩
  | 92 => ⟨S512x4x8x8x16, .f32⟩
  | 93 => ⟨S_, .i32⟩
  | 94 => ⟨S8x16, .i32⟩
  | 95 => ⟨S8x16, .i1⟩
  | 96 => ⟨S_, .i32⟩
  | 97 => ⟨S8x16, .i32⟩
  | 98 => ⟨S8x16, .i32⟩
  | 99 => ⟨S8x16, .i32⟩
  | 100 => ⟨S8x16x1, .i32⟩
  | 101 => ⟨S8x16x64, .f32⟩
  | 102 => ⟨S8x16x512x4x8, .f32⟩
  | 103 => ⟨S512x4x8x8x16, .f32⟩
  | 104 => ⟨S512x4x8x8x16x16, .f32⟩
  | 105 => ⟨S512x4x8x8x1x16, .f32⟩
  | 106 => ⟨S512x4x8x8x16x16, .f32⟩
  | 107 => ⟨S512x4x8x8x16x16, .f32⟩
  | 108 => ⟨S512x4x8x8x16x1, .f32⟩
  | 109 => ⟨S512x4x8x8x16x16, .f32⟩
  | 110 => ⟨S512x4x8x8x16x16, .f32⟩
  | 111 => ⟨S512x4x64x256, .f32⟩
  | 112 => ⟨S_, .i1⟩
  | 113 => ⟨S64x64, .i1⟩
  | 114 => ⟨S_, .i32⟩
  | 115 => ⟨S_, .i32⟩
  | 116 => ⟨S_, .i32⟩
  | 117 => ⟨S_, .i1⟩
  | 118 => ⟨S_, .i1⟩
  | 119 => ⟨S72x72, .i1⟩
  | 120 => ⟨S_, .i32⟩
  | 121 => ⟨S8x16, .i32⟩
  | 122 => ⟨S8x16, .i1⟩
  | 123 => ⟨S_, .i32⟩
  | 124 => ⟨S8x16, .i32⟩
  | 125 => ⟨S8x16, .i32⟩
  | 126 => ⟨S8x16, .i32⟩
  | 127 => ⟨S8x16x1, .i32⟩
  | _ => ⟨S8x256x64x64, .f32⟩

abbrev hbmTy0_1 (i : Nat) : BufTy := match i % 128 with
  | 0 => ⟨S8x16x72, .i1⟩
  | 1 => ⟨S_, .i32⟩
  | 2 => ⟨S8x16, .i32⟩
  | 3 => ⟨S8x16, .i1⟩
  | 4 => ⟨S_, .i32⟩
  | 5 => ⟨S8x16, .i32⟩
  | 6 => ⟨S8x16, .i32⟩
  | 7 => ⟨S8x16, .i32⟩
  | 8 => ⟨S8x16x1, .i32⟩
  | 9 => ⟨S8x16x8x16, .i1⟩
  | 10 => ⟨S8x8x16x16, .i1⟩
  | 11 => ⟨S64x256, .i1⟩
  | 12 => ⟨S1x64x256, .i1⟩
  | 13 => ⟨S8x64x256, .i1⟩
  | 14 => ⟨S512x1x1x256, .i1⟩
  | 15 => ⟨S_, .f32⟩
  | 16 => ⟨S512x4x64x256, .i1⟩
  | 17 => ⟨S512x4x64x256, .f32⟩
  | 18 => ⟨S512x4x64x256, .f32⟩
  | 19 => ⟨S_, .f32⟩
  | 20 => ⟨S512x4x64, .f32⟩
  | 21 => ⟨S_, .f32⟩
  | 22 => ⟨S512x4x64, .f32⟩
  | 23 => ⟨S512x4x64, .f32⟩
  | 24 => ⟨S512x4x64x1, .f32⟩
  | 25 => ⟨S512x4x64x256, .f32⟩
  | 26 => ⟨S512x4x64x256, .f32⟩
  | 27 => ⟨S512x4x64x256, .f32⟩
  | 28 => ⟨S_, .f32⟩
  | 29 => ⟨S512x4x64, .f32⟩
  | 30 => ⟨S512x4x64x1, .f32⟩
  | 31 => ⟨S512x4x64x256, .f32⟩
  | 32 => ⟨S512x4x64x256, .f32⟩
  | 33 => ⟨S512x4x64x64, .f32⟩
  | 34 => ⟨S512x64x4x64, .f32⟩
  | 35 => ⟨S512x64x256, .f32⟩
  | 36 => ⟨S256x256, .f32⟩
  | 37 => ⟨S512x64x256, .f32⟩
  | 38 => ⟨S1x1x256, .f32⟩
  | 39 => ⟨S512x64x256, .f32⟩
  | 40 => ⟨S512x64x256, .f32⟩
  | 41 => ⟨S8x8x8x8x8x256, .f32⟩
  | 42 => ⟨S8x256x8x8x8x8, .f32⟩
  | 43 => ⟨S8x256x64x64, .f32⟩
  | 44 => ⟨S1024x8x64x64, .f32⟩
  | 45 => ⟨S8x1024x64x64, .f32⟩
  | 46 => ⟨S1x1024x1x1, .f32⟩
  | 47 => ⟨S8x1024x64x64, .f32⟩
  | 48 => ⟨S8x1024x64x64, .f32⟩
  | 49 => ⟨S8x256x2x2x64x64, .f32⟩
  | 50 => ⟨S8x256x64x2x64x2, .f32⟩
  | 51 => ⟨S8x256x128x128, .f32⟩
  | _ => ⟨S8x256x64x64, .f32⟩

abbrev hbmTy (i : Nat) : BufTy := match i / 128 with
  | 0 => hbmTy0_0 i
  | 1 => hbmTy0_1 i
  | _ => ⟨S8x256x64x64, .f32⟩

abbrev bufTy : (tb : Table) → Fin (tcTables nBuf tb) → BufTy
  | .hbm, ⟨i, _⟩ => hbmTy i
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_6 : Ref sig .tc := ⟨.hbm, 79, rfl⟩
abbrev main_v61 : Ref sig .tc := ⟨.hbm, 80, rfl⟩
abbrev main_v62 : Ref sig .tc := ⟨.hbm, 81, rfl⟩
abbrev main_c_7 : Ref sig .tc := ⟨.hbm, 82, rfl⟩
abbrev main_v63 : Ref sig .tc := ⟨.hbm, 83, rfl⟩
abbrev main_v64 : Ref sig .tc := ⟨.hbm, 84, rfl⟩
abbrev main_c_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_9 : Ref sig .tc := ⟨.hbm, 93, rfl⟩
abbrev main_v72 : Ref sig .tc := ⟨.hbm, 94, rfl⟩
abbrev main_v73 : Ref sig .tc := ⟨.hbm, 95, rfl⟩
abbrev main_c_10 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_c_11 : Ref sig .tc := ⟨.hbm, 112, rfl⟩
abbrev main_v89 : Ref sig .tc := ⟨.hbm, 113, rfl⟩
abbrev main_c_12 : Ref sig .tc := ⟨.hbm, 114, rfl⟩
abbrev main_call1_c : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v90 : Ref sig .tc := ⟨.hbm, 119, rfl⟩
abbrev main_c_13 : Ref sig .tc := ⟨.hbm, 120, rfl⟩
abbrev main_v91 : Ref sig .tc := ⟨.hbm, 121, rfl⟩
abbrev main_v92 : Ref sig .tc := ⟨.hbm, 122, rfl⟩
abbrev main_c_14 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_c_15 : Ref sig .tc := ⟨.hbm, 129, rfl⟩
abbrev main_v98 : Ref sig .tc := ⟨.hbm, 130, rfl⟩
abbrev main_v99 : Ref sig .tc := ⟨.hbm, 131, rfl⟩
abbrev main_c_16 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_17 : Ref sig .tc := ⟨.hbm, 143, rfl⟩
abbrev main_call2_v0 : Ref sig .tc := ⟨.hbm, 144, rfl⟩
abbrev main_call2_v1 : Ref sig .tc := ⟨.hbm, 145, rfl⟩
abbrev main_v110 : Ref sig .tc := ⟨.hbm, 146, rfl⟩
abbrev main_cst_18 : Ref sig .tc := ⟨.hbm, 147, rfl⟩
abbrev main_v111 : Ref sig .tc := ⟨.hbm, 148, rfl⟩
abbrev main_cst_19 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_20 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩

abbrev nD : Nat := 1
abbrev τ : Topo := Topo.v7x

variable {F : FTy → Type} [FloatOps F]
-- ==== Proof.Gather.lean ====
module
public import Idealize.ShloMosaic.Lib.Pointwise
@[expose] public section
set_option maxRecDepth 16384
noncomputable section
namespace Cert.Gather
open Idealize.ShloMosaic

/-! Gathers whose start indices are an 8 by 16 table of positions along one axis, read at an index. -/

/-- A number below `2 ^ 31` read back as a signed word. -/
theorem toNat_word (n : Nat) (h : n < 128) : (BitVec.ofNat 32 n).toInt.toNat = n := by
  rw [BitVec.toInt_eq_toNat_cond, BitVec.toNat_ofNat]
  omega

/-- An index is fixed by its coordinates' values. -/
theorem gather_at {α : Type} {s si t : Shape} (d : GatherDims s si t) (x : s.Idx → α) (idx : IVec si 32) (j : t.Idx) (k : s.Idx)
    (h : ∀ a, d.start j idx a + d.batchCoord j a + d.offCoord j a = (k a).val) : Host.gather d x idx j = x k :=
  congrArg x (funext fun a => Fin.ext (h a))

/-- Rows of a table taken at an 8 by 16 table of row numbers. -/
abbrev rows (N C : Nat)
    (wf : GatherDims.WF ⟨2, ![N, C]⟩ ⟨3, ![8, 16, 1]⟩ ⟨3, ![8, 16, C]⟩ [2] [0] [] [0] [] 2 ![1, C]) :
    GatherDims ⟨2, ![N, C]⟩ ⟨3, ![8, 16, 1]⟩ ⟨3, ![8, 16, C]⟩ where
  offsetDims := [2]
  collapsedSliceDims := [0]
  operandBatchingDims := []
  startIndicesBatchingDims := []
  startIndexMap := [0]
  indexVectorDim := 2
  sliceSizes := ![1, C]
  wf := wf

/-- Taking rows, read at an index. -/
theorem rows_apply {α : Type} {N C : Nat} (hN : N ≤ 100)
    (wf : GatherDims.WF ⟨2, ![N, C]⟩ ⟨3, ![8, 16, 1]⟩ ⟨3, ![8, 16, C]⟩ [2] [0] [] [0] [] 2 ![1, C])
    (x : (⟨2, ![N, C]⟩ : Shape).Idx → α) (idx : IVec ⟨3, ![8, 16, 1]⟩ 32) (y : Fin 8) (j : Fin 16) (c : Fin C) (n : Fin N)
    (h : idx (ix3 y j 0) = BitVec.ofNat 32 n.val) :
    Host.gather (rows N C wf) x idx (ix3 y j c) = x (ix2 n c) := by
  refine gather_at _ x idx _ _ fun a => ?_
  have hs : (rows N C wf).siIdx (ix3 y j c) ⟨0, Nat.one_pos⟩ = ix3 y j 0 := by
    funext b; refine Fin.ext ?_
    match b with
    | ⟨0, _⟩ => rfl
    | ⟨1, _⟩ => rfl
    | ⟨2, _⟩ => rfl
  match a with
  | ⟨0, _⟩ =>
    show min (idx ((rows N C wf).siIdx (ix3 y j c) ⟨0, Nat.one_pos⟩)).toInt.toNat (N - 1) + 0 + 0 = n.val
    rw [hs, h, toNat_word _ (by omega)]
    omega
  | ⟨1, _⟩ =>
    show 0 + 0 + c.val = c.val
    omega

/-- The rows of a picture taken at an 8 by 16 table of row numbers. -/
abbrev picRows (wf : GatherDims.WF ⟨4, ![8, 256, 72, 72]⟩ ⟨3, ![8, 16, 1]⟩ ⟨5, ![8, 256, 8, 16, 72]⟩ [0, 1, 4] [2] [] [2] [] 2 ![8, 256, 1, 72]) :
    GatherDims ⟨4, ![8, 256, 72, 72]⟩ ⟨3, ![8, 16, 1]⟩ ⟨5, ![8, 256, 8, 16, 72]⟩ where
  offsetDims := [0, 1, 4]
  collapsedSliceDims := [2]
  operandBatchingDims := []
  startIndicesBatchingDims := []
  startIndexMap := [2]
  indexVectorDim := 2
  sliceSizes := ![8, 256, 1, 72]
  wf := wf

/-- Taking a picture's rows, read at an index. -/
theorem picRows_apply {α : Type}
    (wf : GatherDims.WF ⟨4, ![8, 256, 72, 72]⟩ ⟨3, ![8, 16, 1]⟩ ⟨5, ![8, 256, 8, 16, 72]⟩ [0, 1, 4] [2] [] [2] [] 2 ![8, 256, 1, 72])
    (x : (⟨4, ![8, 256, 72, 72]⟩ : Shape).Idx → α) (idx : IVec ⟨3, ![8, 16, 1]⟩ 32)
    (b : Fin 8) (k : Fin 256) (i : Fin 8) (u : Fin 16) (c : Fin 72) (n : Fin 72) (h : idx (ix3 i u 0) = BitVec.ofNat 32 n.val) :
    Host.gather (picRows wf) x idx (ix5 b k i u c) = x (ix4 b k n c) := by
  refine gather_at _ x idx _ _ fun a => ?_
  have hs : (picRows wf).siIdx (ix5 b k i u c) ⟨0, Nat.one_pos⟩ = ix3 i u 0 := by
    funext b; refine Fin.ext ?_
    match b with
    | ⟨0, _⟩ => rfl
    | ⟨1, _⟩ => rfl
    | ⟨2, _⟩ => rfl
  match a with
  | ⟨0, _⟩ => show 0 + 0 + b.val = b.val; omega
  | ⟨1, _⟩ => show 0 + 0 + k.val = k.val; omega
  | ⟨2, _⟩ =>
    show min (idx ((picRows wf).siIdx (ix5 b k i u c) ⟨0, Nat.one_pos⟩)).toInt.toNat (72 - 1) + 0 + 0 = n.val
    rw [hs, h, toNat_word _ (by omega)]
    omega
  | ⟨3, _⟩ => show 0 + 0 + c.val = c.val; omega

/-- The columns of a picture's strips taken at an 8 by 16 table of column numbers. -/
abbrev picCols (wf : GatherDims.WF ⟨5, ![8, 256, 8, 16, 72]⟩ ⟨3, ![8, 16, 1]⟩ ⟨6, ![8, 256, 8, 16, 8, 16]⟩ [0, 1, 2, 3] [4] [] [4] [] 2
      ![8, 256, 8, 16, 1]) :
    GatherDims ⟨5, ![8, 256, 8, 16, 72]⟩ ⟨3, ![8, 16, 1]⟩ ⟨6, ![8, 256, 8, 16, 8, 16]⟩ where
  offsetDims := [0, 1, 2, 3]
  collapsedSliceDims := [4]
  operandBatchingDims := []
  startIndicesBatchingDims := []
  startIndexMap := [4]
  indexVectorDim := 2
  sliceSizes := ![8, 256, 8, 16, 1]
  wf := wf

/-- Taking a picture's columns, read at an index given by its coordinates. -/
theorem picCols_apply {α : Type}
    (wf : GatherDims.WF ⟨5, ![8, 256, 8, 16, 72]⟩ ⟨3, ![8, 16, 1]⟩ ⟨6, ![8, 256, 8, 16, 8, 16]⟩ [0, 1, 2, 3] [4] [] [4] [] 2
      ![8, 256, 8, 16, 1])
    (x : (⟨5, ![8, 256, 8, 16, 72]⟩ : Shape).Idx → α) (idx : IVec ⟨3, ![8, 16, 1]⟩ 32)
    (y : (⟨6, ![8, 256, 8, 16, 8, 16]⟩ : Shape).Idx)
    (b : Fin 8) (k : Fin 256) (i : Fin 8) (u : Fin 16) (j : Fin 8) (v : Fin 16) (n : Fin 72) (hb : (y 0).val = b.val) (hk : (y 1).val = k.val)
    (hi : (y 2).val = i.val) (hu : (y 3).val = u.val) (hj : (y 4).val = j.val) (hv : (y 5).val = v.val) (h : idx (ix3 j v 0) = BitVec.ofNat 32 n.val) :
    Host.gather (picCols wf) x idx y = x (ix5 b k i u n) := by
  refine gather_at _ x idx _ _ fun a => ?_
  have hs : (picCols wf).siIdx y ⟨0, Nat.one_pos⟩ = ix3 j v 0 := by
    funext b; refine Fin.ext ?_
    match b with
    | ⟨0, _⟩ => exact hj
    | ⟨1, _⟩ => exact hv
    | ⟨2, _⟩ => rfl
  match a with
  | ⟨0, _⟩ => show 0 + 0 + (y 0).val = b.val; omega
  | ⟨1, _⟩ => show 0 + 0 + (y 1).val = k.val; omega
  | ⟨2, _⟩ => show 0 + 0 + (y 2).val = i.val; omega
  | ⟨3, _⟩ => show 0 + 0 + (y 3).val = u.val; omega
  | ⟨4, _⟩ =>
    show min (idx ((picCols wf).siIdx y ⟨0, Nat.one_pos⟩)).toInt.toNat (72 - 1) + 0 + 0 = n.val
    rw [hs, h, toNat_word _ (by omega)]
    omega

/-- The columns of a mask's strips taken at an 8 by 16 table of column numbers. -/
abbrev maskCols (wf : GatherDims.WF ⟨3, ![8, 16, 72]⟩ ⟨3, ![8, 16, 1]⟩ ⟨4, ![8, 16, 8, 16]⟩ [0, 1] [2] [] [2] [] 2 ![8, 16, 1]) :
    GatherDims ⟨3, ![8, 16, 72]⟩ ⟨3, ![8, 16, 1]⟩ ⟨4, ![8, 16, 8, 16]⟩ where
  offsetDims := [0, 1]
  collapsedSliceDims := [2]
  operandBatchingDims := []
  startIndicesBatchingDims := []
  startIndexMap := [2]
  indexVectorDim := 2
  sliceSizes := ![8, 16, 1]
  wf := wf

/-- Taking a mask's columns, read at an index. -/
theorem maskCols_apply {α : Type}
    (wf : GatherDims.WF ⟨3, ![8, 16, 72]⟩ ⟨3, ![8, 16, 1]⟩ ⟨4, ![8, 16, 8, 16]⟩ [0, 1] [2] [] [2] [] 2 ![8, 16, 1])
    (x : (⟨3, ![8, 16, 72]⟩ : Shape).Idx → α) (idx : IVec ⟨3, ![8, 16, 1]⟩ 32) (i : Fin 8) (u : Fin 16) (j : Fin 8) (v : Fin 16) (n : Fin 72)
    (h : idx (ix3 j v 0) = BitVec.ofNat 32 n.val) :
    Host.gather (maskCols wf) x idx (ix4 i u j v) = x (ix3 i u n) := by
  refine gather_at _ x idx _ _ fun a => ?_
  have hs : (maskCols wf).siIdx (ix4 i u j v) ⟨0, Nat.one_pos⟩ = ix3 j v 0 := by
    funext b; refine Fin.ext ?_
    match b with
    | ⟨0, _⟩ => rfl
    | ⟨1, _⟩ => rfl
    | ⟨2, _⟩ => rfl
  match a with
  | ⟨0, _⟩ => show 0 + 0 + i.val = i.val; omega
  | ⟨1, _⟩ => show 0 + 0 + u.val = u.val; omega
  | ⟨2, _⟩ =>
    show min (idx ((maskCols wf).siIdx (ix4 i u j v) ⟨0, Nat.one_pos⟩)).toInt.toNat (72 - 1) + 0 + 0 = n.val
    rw [hs, h, toNat_word _ (by omega)]
    omega

end Cert.Gather
-- ==== Proof.Spec.lean ====
module
public import Idealize.ShloMosaic.Lib.Pointwise
@[expose] public section
noncomputable section
namespace Cert.Spec
open Idealize.ShloMosaic

/-! The layer's mathematics over the extended reals, by coordinates: batch `b`, block row `i` and column `j`, the query's row `y` and
column `x` in its block, head `h` and its feature `d`, the key's row `ki` and column `kj` in its window. -/

/-- The nine arguments, by coordinates. -/
structure Args where
  /-- The picture. -/
  x : Fin 8 → Fin 256 → Fin 64 → Fin 64 → EReal
  /-- The query weights. -/
  wq : Fin 256 → Fin 256 → EReal
  /-- The key and value weights. -/
  wkv : Fin 512 → Fin 256 → EReal
  /-- The output projection. -/
  wo : Fin 256 → Fin 256 → EReal
  /-- The output projection's bias. -/
  bo : Fin 256 → EReal
  /-- The position table by rows. -/
  rh : Fin 31 → Fin 64 → EReal
  /-- The position table by columns. -/
  rw : Fin 31 → Fin 64 → EReal
  /-- The convolution's weights. -/
  wc : Fin 1024 → Fin 256 → EReal
  /-- The convolution's bias. -/
  bc : Fin 1024 → EReal

variable (A : Args)

/-- The picture padded by four zeros on each side, at row `r` and column `c`. -/
def xp (b : Fin 8) (r c : Nat) (k : Fin 256) : EReal :=
  if h : (4 ≤ r ∧ r < 68) ∧ (4 ≤ c ∧ c < 68) then A.x b k ⟨r - 4, by omega⟩ ⟨c - 4, by omega⟩ else 0

/-- The scaled query of padded row `r` and column `c`. -/
def q (b : Fin 8) (r c : Nat) (e : Fin 256) : EReal :=
  (∑ k : Fin 256, xp A b r c k * A.wq e k) * Ideal.ofBits .f32 0x3E000000#32

/-- The key (`e < 256`) or value of padded row `r` and column `c`. -/
def kv (b : Fin 8) (r c : Nat) (e : Fin 512) : EReal := ∑ k : Fin 256, xp A b r c k * A.wkv e k

/-- Whether a key lies within the picture. -/
def inside (i j : Fin 8) (l : Fin 256) : Prop :=
  (4 ≤ 8 * i.val + l.val / 16 ∧ 8 * i.val + l.val / 16 < 68) ∧ (4 ≤ 8 * j.val + l.val % 16 ∧ 8 * j.val + l.val % 16 < 68)

/-- It is decided by comparing numbers. -/
instance (i j : Fin 8) (l : Fin 256) : Decidable (inside i j l) := by unfold inside; infer_instance

/-- The scaled query of block `(i, j)`, row `y`, column `x`. -/
def qb (b i j y x : Fin 8) (h : Fin 4) (d : Fin 64) : EReal :=
  q A b (8 * i.val + (4 + y.val)) (8 * j.val + (4 + x.val)) ⟨64 * h.val + d.val, by omega⟩

/-- The key of block `(i, j)` at window position `l`. -/
def key (b i j : Fin 8) (h : Fin 4) (l : Fin 256) (d : Fin 64) : EReal :=
  kv A b (8 * i.val + l.val / 16) (8 * j.val + l.val % 16) ⟨64 * h.val + d.val, by omega⟩

/-- The value of block `(i, j)` at window position `l`. -/
def value (b i j : Fin 8) (h : Fin 4) (l : Fin 256) (d : Fin 64) : EReal :=
  kv A b (8 * i.val + l.val / 16) (8 * j.val + l.val % 16) ⟨256 + 64 * h.val + d.val, by omega⟩

/-- The score by content. -/
def content (b i j y x : Fin 8) (h : Fin 4) (l : Fin 256) : EReal := ∑ d : Fin 64, qb A b i j y x h d * key A b i j h l d

/-- The score by the distance between columns. -/
def byCol (b i j y x : Fin 8) (h : Fin 4) (l : Fin 256) : EReal :=
  ∑ d : Fin 64, qb A b i j y x h d * A.rw ⟨l.val % 16 + 15 - x.val, by omega⟩ d

/-- The score by the distance between rows. -/
def byRow (b i j y x : Fin 8) (h : Fin 4) (l : Fin 256) : EReal :=
  ∑ d : Fin 64, qb A b i j y x h d * A.rh ⟨l.val / 16 + 15 - y.val, by omega⟩ d

/-- The score of a key for a query: −∞ outside the picture. -/
def score (b i j y x : Fin 8) (h : Fin 4) (l : Fin 256) : EReal :=
  if inside i j l then content A b i j y x h l + byCol A b i j y x h l + byRow A b i j y x h l else ⊥

/-- A head's value, the division last. -/
def attLate (b i j y x : Fin 8) (h : Fin 4) (d : Fin 64) : EReal :=
  Ideal.div (∑ l : Fin 256, Ideal.exp (score A b i j y x h l) * value A b i j h l d) (∑ l : Fin 256, Ideal.exp (score A b i j y x h l))

/-- The greatest score of a query. -/
def top (b i j y x : Fin 8) (h : Fin 4) : EReal := Finset.univ.fold max ⊥ fun l : Fin 256 => score A b i j y x h l

/-- A head's value by softmax: the greatest score subtracted, the weights divided by their sum, then the weighted sum. -/
def attSoft (b i j y x : Fin 8) (h : Fin 4) (d : Fin 64) : EReal :=
  ∑ l : Fin 256, Ideal.div (Ideal.exp (score A b i j y x h l - top A b i j y x h))
    (∑ k : Fin 256, Ideal.exp (score A b i j y x h k - top A b i j y x h)) * value A b i j h l d

/-- The projected heads and the convolution, from a block's heads `t`. -/
def conv (t : Fin 4 → Fin 64 → EReal) (o : Fin 1024) : EReal :=
  ∑ c : Fin 256, (∑ e : Fin 256, t ⟨e.val / 64, by omega⟩ ⟨e.val % 64, by omega⟩ * A.wo c e + A.bo c) * A.wc o c + A.bc o

/-- The picture the layer leaves, from the attended rows: every output channel of the convolution at its place in a two by two square. -/
def picture (att : Fin 8 → Fin 8 → Fin 8 → Fin 8 → Fin 8 → Fin 4 → Fin 64 → EReal) (b : Fin 8) (ch : Fin 256) (Y X : Fin 128) : EReal :=
  conv A (att b ⟨Y.val / 16, by omega⟩ ⟨X.val / 16, by omega⟩ ⟨Y.val / 2 % 8, by omega⟩ ⟨X.val / 2 % 8, by omega⟩)
    ⟨4 * ch.val + 2 * (Y.val % 2) + X.val % 2, by omega⟩

/-! ### Finiteness -/

/-- A number that is neither infinity. -/
def IsReal (a : EReal) : Prop := ∃ r : ℝ, a = r

/-- A sum of two real numbers is one. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- A product of two real numbers is one. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem IsReal.zero : IsReal 0 := ⟨0, rfl⟩

/-- A finite sum of real numbers is one. -/
theorem IsReal.sum {ι : Type} (s : Finset ι) {f : ι → EReal} (h : ∀ i, IsReal (f i)) : IsReal (∑ i ∈ s, f i) := by
  classical
  induction s using Finset.induction_on with
  | empty => simpa using IsReal.zero
  | insert a s ha ih =>
    rw [Finset.sum_insert ha]
    exact (h a).add ih

/-- The scale 2⁻³ is a number. -/
theorem real_scale : IsReal (Ideal.ofBits .f32 0x3E000000#32) := by
  unfold Ideal.ofBits Ideal.ieee
  simp only
  rw [if_neg (by decide), if_neg (by decide)]
  exact ⟨_, rfl⟩

/-! ### The softmax -/

/-- A number not negative leaves a sum when it multiplies from the right. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- A sum of real numbers, read in the extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- Dividing each weight by the weights' sum is dividing the weighted sum by it, whatever number was subtracted from the scores:
the scores are numbers or −∞, one of them a number. -/
theorem softmax (s v : Fin 256 → EReal) (hs : ∀ l, s l = ⊥ ∨ IsReal (s l)) (h0 : ∃ l, IsReal (s l)) (M : EReal) (hM : IsReal M) :
    Ideal.div (∑ l, Ideal.exp (s l) * v l) (∑ l, Ideal.exp (s l))
      = ∑ l, Ideal.div (Ideal.exp (s l - M)) (∑ k, Ideal.exp (s k - M)) * v l := by
  obtain ⟨m, rfl⟩ := hM
  have hex : ∀ l, ∃ e : ℝ, 0 ≤ e ∧ Ideal.exp (s l) = (e : EReal) ∧ Ideal.exp (s l - (m : EReal)) = ((e * Real.exp (-m) : ℝ) : EReal)
      ∧ (IsReal (s l) → 0 < e) := by
    intro l
    rcases hs l with h | ⟨r, h⟩
    · refine ⟨0, le_rfl, ?_, ?_, ?_⟩
      · rw [h]; rfl
      · rw [h, EReal.bot_sub, zero_mul]; rfl
      · rintro ⟨r, hr⟩
        rw [h] at hr
        exact absurd hr (EReal.bot_ne_coe r)
    · refine ⟨Real.exp r, (Real.exp_pos r).le, ?_, ?_, fun _ => Real.exp_pos r⟩
      · rw [h]; rfl
      · rw [h, ← EReal.coe_sub]
        show ((Real.exp (r - m) : ℝ) : EReal) = _
        rw [sub_eq_add_neg, Real.exp_add]
  choose e he h1 h2 h3 using hex
  have hS : 0 < ∑ l, e l := by
    obtain ⟨l, hl⟩ := h0
    exact Finset.sum_pos' (fun i _ => he i) ⟨l, Finset.mem_univ l, h3 l hl⟩
  have hc := Real.exp_pos (-m)
  set S : ℝ := ∑ l, e l with hSd
  set c : ℝ := Real.exp (-m) with hcd
  have e1 : (∑ l, Ideal.exp (s l)) = (S : EReal) := by
    rw [hSd, coe_sum]
    exact Finset.sum_congr rfl fun l _ => h1 l
  have e2 : (∑ l, Ideal.exp (s l - (m : EReal))) = ((S * c : ℝ) : EReal) := by
    rw [hSd, Finset.sum_mul, coe_sum]
    exact Finset.sum_congr rfl fun l _ => h2 l
  have hSc : 0 < S * c := mul_pos hS hc
  rw [e1, e2]
  unfold Ideal.div
  rw [if_neg (by exact_mod_cast hS.ne'), ← EReal.coe_inv, sum_mul_real _ _ _ (inv_nonneg.mpr hS.le)]
  refine Finset.sum_congr rfl fun l _ => ?_
  rw [if_neg (by exact_mod_cast hSc.ne'), ← EReal.coe_inv, h1, h2, ← EReal.coe_mul, mul_right_comm, ← EReal.coe_mul]
  congr 2
  field_simp

/-- The fold of a maximum from −∞ over scores that are numbers or −∞, one of them a number, is a number. -/
theorem real_top (s : Fin 256 → EReal) (hs : ∀ l, s l = ⊥ ∨ IsReal (s l)) (h0 : ∃ l, IsReal (s l)) :
    IsReal (Finset.univ.fold max ⊥ s) := by
  have hb : Finset.univ.fold max ⊥ s ≠ ⊥ := by
    obtain ⟨l, r, hl⟩ := h0
    intro h
    have : s l ≤ Finset.univ.fold max ⊥ s := (Finset.le_fold_max _).mpr (Or.inr ⟨l, Finset.mem_univ l, le_rfl⟩)
    rw [h, hl] at this
    exact EReal.coe_ne_bot r (le_bot_iff.mp this)
  have ht : Finset.univ.fold max ⊥ s ≠ ⊤ := by
    refine ne_of_lt ((Finset.fold_max_lt _).mpr ⟨bot_lt_top, fun l _ => ?_⟩)
    rcases hs l with h | ⟨r, h⟩
    · rw [h]; exact bot_lt_top
    · rw [h]; exact EReal.coe_lt_top r
  exact ⟨_, (EReal.coe_toReal ht hb).symm⟩

/-- What the precondition gives: the picture, the query and key weights and the position tables are numbers. -/
structure Finite : Prop where
  x : ∀ b k r c, IsReal (A.x b k r c)
  wq : ∀ e k, IsReal (A.wq e k)
  wk : ∀ (e : Fin 512) k, e.val < 256 → IsReal (A.wkv e k)
  rh : ∀ m d, IsReal (A.rh m d)
  rw : ∀ m d, IsReal (A.rw m d)

variable {A}

/-- The padded picture is real. -/
theorem Finite.xp (hA : Finite A) (b : Fin 8) (r c : Nat) (k : Fin 256) : IsReal (xp A b r c k) := by
  unfold Spec.xp
  split
  · exact hA.x _ _ _ _
  · exact IsReal.zero

/-- Under the precondition a query is a number. -/
theorem Finite.qb (hA : Finite A) (b i j y x : Fin 8) (h : Fin 4) (d : Fin 64) : IsReal (qb A b i j y x h d) :=
  (IsReal.sum _ fun _ => (hA.xp _ _ _ _).mul (hA.wq _ _)).mul real_scale

/-- Under the precondition a score is a number, or −∞ outside the picture. -/
theorem Finite.score (hA : Finite A) (b i j y x : Fin 8) (h : Fin 4) (l : Fin 256) :
    (¬ inside i j l ∧ score A b i j y x h l = ⊥) ∨ IsReal (score A b i j y x h l) := by
  unfold Spec.score
  by_cases hi : inside i j l
  · rw [if_pos hi]
    refine Or.inr (((IsReal.sum _ fun d => (hA.qb _ _ _ _ _ _ _).mul ?_).add ?_).add ?_)
    · unfold key kv
      exact IsReal.sum _ fun k => (hA.xp _ _ _ _).mul (hA.wk _ _ (by show 64 * h.val + d.val < 256; omega))
    · exact IsReal.sum _ fun d => (hA.qb _ _ _ _ _ _ _).mul (hA.rw _ _)
    · exact IsReal.sum _ fun d => (hA.qb _ _ _ _ _ _ _).mul (hA.rh _ _)
  · rw [if_neg hi]
    exact Or.inl ⟨hi, rfl⟩

/-- The two ways of dividing agree. -/
theorem Finite.att (hA : Finite A) (b i j y x : Fin 8) (h : Fin 4) (d : Fin 64) :
    attLate A b i j y x h d = attSoft A b i j y x h d := by
  have hs : ∀ l, Spec.score A b i j y x h l = ⊥ ∨ IsReal (Spec.score A b i j y x h l) :=
    fun l => (hA.score b i j y x h l).imp (fun h => h.2) id
  have h0 : ∃ l, IsReal (Spec.score A b i j y x h l) := by
    refine ⟨⟨68, by omega⟩, (hA.score b i j y x h _).resolve_left fun hn => hn.1 ?_⟩
    unfold inside
    simp only
    omega
  exact softmax _ _ hs h0 _ (real_top _ hs h0)

end Cert.Spec
-- ==== Proof.RefRead.lean ====
module
public import proofs.«01_k».proof.Proof.Gen.ReferenceIdeal.Read
public import proofs.«01_k».proof.Proof.Gather
public import proofs.«01_k».proof.Proof.Spec
public import Idealize.ShloMosaic.Lib.Pointwise
@[expose] public section
set_option maxRecDepth 16384
noncomputable section
namespace Cert.ReferenceIdeal.Plain
open Idealize.ShloMosaic Cert.ReferenceIdeal Cert.ReferenceIdeal.Read Cert.Spec

/-! The reference's arrays, read at an index from the arguments. Block `nb` is block row `nb / 8 % 8`, block column `nb % 8` of picture
`nb / 64`; a query `n` is row `n / 8`, column `n % 8` of its block. -/

/-- The nine argument arrays, by coordinates. -/
def args (x0 : FVec Ideal S8x256x64x64 .f32) (x1 : FVec Ideal S256x256 .f32) (x2 : FVec Ideal S512x256 .f32)
    (x3 : FVec Ideal S256x256 .f32) (x4 : FVec Ideal S256 .f32) (x5 x6 : FVec Ideal S31x64 .f32) (x7 : FVec Ideal S1024x256 .f32)
    (x8 : FVec Ideal S1024 .f32) : Args where
  x b k r s := x0 (ix4 b k r s)
  wq e k := x1 (ix2 e k)
  wkv e k := x2 (ix2 e k)
  wo e k := x3 (ix2 e k)
  bo e := x4 (ix1 e)
  rh n d := x5 (ix2 n d)
  rw n d := x6 (ix2 n d)
  wc o k := x7 (ix2 o k)
  bc o := x8 (ix1 o)

variable (x0 : FVec Ideal S8x256x64x64 .f32) (x1 : FVec Ideal S256x256 .f32) (x2 : FVec Ideal S512x256 .f32)
  (x3 : FVec Ideal S256x256 .f32) (x4 : FVec Ideal S256 .f32) (x5 x6 : FVec Ideal S31x64 .f32) (x7 : FVec Ideal S1024x256 .f32)
  (x8 : FVec Ideal S1024 .f32)

/-- The picture a block is of. -/
def pic (nb : Fin 512) : Fin 8 := ⟨nb.val / 64, by omega⟩
/-- A block's row. -/
def row (nb : Fin 512) : Fin 8 := ⟨nb.val / 8 % 8, by omega⟩
/-- A block's column. -/
def col (nb : Fin 512) : Fin 8 := ⟨nb.val % 8, by omega⟩
/-- A query's row in its block. -/
def qrow (n : Fin 64) : Fin 8 := ⟨n.val / 8, by omega⟩
/-- A query's column in its block. -/
def qcol (n : Fin 64) : Fin 8 := ⟨n.val % 8, by omega⟩

/-- The integer zero as a float. -/
theorem zero_word : (FloatOps.sitofp FTy.f32 (0#32) : Ideal .f32) = (0 : EReal) := by
  show ((((0#32 : BitVec 32).toInt : ℝ)) : EReal) = 0
  simp

/-- The float word of minus infinity. -/
theorem bot_word : Ideal.ofBits .f32 0xFF800000#32 = ⊥ := by
  unfold Ideal.ofBits Ideal.ieee
  simp only
  rw [if_pos (by decide)]
  rfl

/-- The blocks of the picture: a query's pixel is a pixel of the padded picture four rows down and four columns right of the block's window. -/
theorem v2_at (nb : Fin 512) (n : Fin 64) (k : Fin 256) :
    val_main_v2 (F := Ideal) x0 (ix3 nb n k)
      = xp (args x0 x1 x2 x3 x4 x5 x6 x7 x8) (pic nb) (8 * (row nb).val + (4 + (qrow n).val)) (8 * (col nb).val + (4 + (qcol n).val)) k := by
  pointwise [val_main_v2, val_main_v1, val_main_v0]
  have hr : (4 ≤ 8 * (row nb).val + (4 + (qrow n).val) ∧ 8 * (row nb).val + (4 + (qrow n).val) < 68) := by
    have := (row nb).isLt
    have := (qrow n).isLt
    omega
  have hc : (4 ≤ 8 * (col nb).val + (4 + (qcol n).val) ∧ 8 * (col nb).val + (4 + (qcol n).val) < 68) := by
    have := (col nb).isLt
    have := (qcol n).isLt
    omega
  rw [xp, dif_pos ⟨hr, hc⟩]
  simp only [args, pic, row, col, qrow, qcol]
  congr 2 <;> apply Fin.ext <;> simp only <;> omega

/-- The scaled queries. -/
theorem v43_at (nb : Fin 512) (h : Fin 4) (n : Fin 64) (d : Fin 64) :
    val_main_v43 (F := Ideal) x0 x1 (ix4 nb h n d) = qb (args x0 x1 x2 x3 x4 x5 x6 x7 x8) (pic nb) (row nb) (col nb) (qrow n) (qcol n) h d := by
  pointwise [val_main_v43, val_main_v41, val_main_v42, val_main_v40, val_main_v39, val_main_v38, val_main_cst,
    dot_S512x64x256_S256x256_S512x64x256_2_0_01_1_n_n]
  unfold qb q
  refine congrArg (· * Ideal.ofBits .f32 0x3E000000#32) (Finset.sum_congr rfl fun k _ => ?_)
  rw [v2_at x0 x1 x2 x3 x4 x5 x6 x7 x8]
  refine congrArg (_ * ·) ?_
  simp only [args]
  congr 2
  apply Fin.ext
  simp only
  omega

/-- The padded picture cut into rows of windows. -/
theorem v28_at (b : Fin 8) (k : Fin 256) (i : Fin 8) (u : Fin 16) (c : Fin 72) :
    val_main_v28 (F := Ideal) x0 (ix5 b k i u c) = xp (args x0 x1 x2 x3 x4 x5 x6 x7 x8) b (8 * i.val + u.val) c.val k := by
  unfold val_main_v28
  refine (Gather.picRows_apply _ _ _ b k i u c ⟨8 * i.val + u.val, by omega⟩ ?_).trans ?_
  · pointwise [val_main_v27, val_main_v26, val_main_v25, val_main_v24, val_main_v23, val_main_v22, val_main_v12, val_main_v11, val_main_v10,
      val_main_v9, val_main_v8, val_main_v7, val_main_v6, val_main_v5, val_main_v4, val_main_c_0, val_main_c_2, val_main_c_3]
    revert i u
    decide +kernel
  · pointwise [val_main_v3, val_main_call0_v0, val_main_c]
    unfold xp
    by_cases hh : (4 ≤ 8 * i.val + u.val ∧ 8 * i.val + u.val < 68) ∧ 4 ≤ c.val ∧ c.val < 68
    · rw [dif_pos hh, dif_pos (by omega)]
      rfl
    · rw [dif_neg hh, dif_neg (by omega)]
      exact zero_word

/-- The padded picture cut into windows. -/
theorem v35_at (b : Fin 8) (k : Fin 256) (i : Fin 8) (u : Fin 16) (j : Fin 8) (v : Fin 16) :
    val_main_v35 (F := Ideal) x0 (ix6 b k i u j v) = xp (args x0 x1 x2 x3 x4 x5 x6 x7 x8) b (8 * i.val + u.val) (8 * j.val + v.val) k := by
  unfold val_main_v35
  refine (Gather.picCols_apply _ _ _ (ix6 b k i u j v) b k i u j v ⟨8 * j.val + v.val, by omega⟩ rfl rfl rfl rfl rfl rfl ?_).trans
    (v28_at x0 x1 x2 x3 x4 x5 x6 x7 x8 b k i u _)
  pointwise [val_main_v34, val_main_v33, val_main_v32, val_main_v31, val_main_v30, val_main_v29, val_main_v21, val_main_v20, val_main_v19,
      val_main_v18, val_main_v17, val_main_v16, val_main_v15, val_main_v14, val_main_v13, val_main_c_1, val_main_c_4, val_main_c_5]
  revert j v
  decide +kernel

/-- The windows' pixels. -/
theorem v37_at (nb : Fin 512) (l : Fin 256) (k : Fin 256) :
    val_main_v37 (F := Ideal) x0 (ix3 nb l k) = xp (args x0 x1 x2 x3 x4 x5 x6 x7 x8) (pic nb) (8 * (row nb).val + l.val / 16) (8 * (col nb).val + l.val % 16) k := by
  pointwise [val_main_v37, val_main_v36]
  exact v35_at x0 x1 x2 x3 x4 x5 x6 x7 x8 _ _ _ _ _ _

/-- The keys and values. -/
theorem v45_at (nb : Fin 512) (l : Fin 256) (e : Fin 512) :
    val_main_v45 (F := Ideal) x0 x2 (ix3 nb l e) = kv (args x0 x1 x2 x3 x4 x5 x6 x7 x8) (pic nb) (8 * (row nb).val + l.val / 16) (8 * (col nb).val + l.val % 16) e := by
  pointwise [val_main_v45, val_main_v44, dot_S512x256x256_S256x512_S512x256x512_2_0_01_1_n_n]
  exact Finset.sum_congr rfl fun k _ => by rw [v37_at x0 x1 x2 x3 x4 x5 x6 x7 x8]; rfl

/-- The keys. -/
theorem v49_at (nb : Fin 512) (h : Fin 4) (l : Fin 256) (d : Fin 64) :
    val_main_v49 (F := Ideal) x0 x2 (ix4 nb h l d) = key (args x0 x1 x2 x3 x4 x5 x6 x7 x8) (pic nb) (row nb) (col nb) h l d := by
  pointwise [val_main_v49, val_main_v48, val_main_v46]
  rw [v45_at x0 x1 x2 x3 x4 x5 x6 x7 x8]
  unfold key
  congr 1
  apply Fin.ext
  simp only
  omega

/-- The values. -/
theorem v51_at (nb : Fin 512) (h : Fin 4) (l : Fin 256) (d : Fin 64) :
    val_main_v51 (F := Ideal) x0 x2 (ix4 nb h l d) = value (args x0 x1 x2 x3 x4 x5 x6 x7 x8) (pic nb) (row nb) (col nb) h l d := by
  pointwise [val_main_v51, val_main_v50, val_main_v47]
  rw [v45_at x0 x1 x2 x3 x4 x5 x6 x7 x8]
  unfold value
  congr 1
  apply Fin.ext
  simp only
  omega

/-- The scores by content. -/
theorem v52_at (nb : Fin 512) (h : Fin 4) (n : Fin 64) (l : Fin 256) :
    val_main_v52 (F := Ideal) x0 x1 x2 (ix4 nb h n l) = content (args x0 x1 x2 x3 x4 x5 x6 x7 x8) (pic nb) (row nb) (col nb) (qrow n) (qcol n) h l := by
  pointwise [val_main_v52, dot_S512x4x64x64_S512x4x256x64_S512x4x64x256_3_3_2_2_01_01]
  exact Finset.sum_congr rfl fun d _ => by rw [v43_at x0 x1 x2 x3 x4 x5 x6 x7 x8, v49_at x0 x1 x2 x3 x4 x5 x6 x7 x8]

/-- The columns' position table, by the query's column and the key's. -/
theorem v69_at (x : Fin 8) (v : Fin 16) (d : Fin 64) :
    val_main_v69 (F := Ideal) x6 (ix3 x v d) = x6 (ix2 ⟨v.val + 15 - x.val, by omega⟩ d) := by
  unfold val_main_v69
  refine Gather.rows_apply (by decide) _ _ _ _ _ _ ⟨v.val + 15 - x.val, by omega⟩ ?_
  pointwise [val_main_v68, val_main_v67, val_main_v66, val_main_v65, val_main_v64, val_main_v63, val_main_v62, val_main_v61, val_main_v60,
    val_main_v59, val_main_v58, val_main_v57, val_main_v56, val_main_v55, val_main_v54, val_main_c_6, val_main_c_7, val_main_c_8]
  revert x v
  decide +kernel

/-- The rows' position table, by the query's row and the key's. -/
theorem v78_at (y : Fin 8) (u : Fin 16) (d : Fin 64) :
    val_main_v78 (F := Ideal) x5 (ix3 y u d) = x5 (ix2 ⟨u.val + 15 - y.val, by omega⟩ d) := by
  unfold val_main_v78
  refine Gather.rows_apply (by decide) _ _ _ _ _ _ ⟨u.val + 15 - y.val, by omega⟩ ?_
  pointwise [val_main_v77, val_main_v76, val_main_v75, val_main_v74, val_main_v73, val_main_v72, val_main_v62, val_main_v61, val_main_v60,
    val_main_v59, val_main_v58, val_main_v57, val_main_v56, val_main_v55, val_main_v54, val_main_c_6, val_main_c_9, val_main_c_10]
  revert y u
  decide +kernel

/-- The scores by columns. -/
theorem v70_at (nb : Fin 512) (h : Fin 4) (n : Fin 64) (l : Fin 256) :
    val_main_v70 (F := Ideal) x0 x1 x6 (ix5 (qcol n) ⟨l.val % 16, by omega⟩ nb h (qrow n))
      = byCol (args x0 x1 x2 x3 x4 x5 x6 x7 x8) (pic nb) (row nb) (col nb) (qrow n) (qcol n) h l := by
  pointwise [val_main_v70, val_main_v53, dot_S8x16x64_S512x4x8x8x64_S8x16x512x4x8_2_4_1_012_0_3]
  refine Finset.sum_congr rfl fun d _ => ?_
  rw [v69_at, mul_comm, v43_at x0 x1 x2 x3 x4 x5 x6 x7 x8]
  have e : (⟨(qrow n).val * 8 + (qcol n).val, by have := (qrow n).isLt; have := (qcol n).isLt; omega⟩ : Fin 64) = n :=
    Fin.ext (by simp only [qrow, qcol]; omega)
  rw [e]
  rfl

/-- The scores by rows. -/
theorem v79_at (nb : Fin 512) (h : Fin 4) (n : Fin 64) (l : Fin 256) :
    val_main_v79 (F := Ideal) x0 x1 x5 (ix5 (qrow n) ⟨l.val / 16, by omega⟩ nb h (qcol n))
      = byRow (args x0 x1 x2 x3 x4 x5 x6 x7 x8) (pic nb) (row nb) (col nb) (qrow n) (qcol n) h l := by
  pointwise [val_main_v79, val_main_v53, dot_S8x16x64_S512x4x8x8x64_S8x16x512x4x8_2_4_1_013_0_2]
  refine Finset.sum_congr rfl fun d _ => ?_
  rw [v78_at, mul_comm, v43_at x0 x1 x2 x3 x4 x5 x6 x7 x8]
  have e : (⟨(qrow n).val * 8 + (qcol n).val, by have := (qrow n).isLt; have := (qcol n).isLt; omega⟩ : Fin 64) = n :=
    Fin.ext (by simp only [qrow, qcol]; omega)
  rw [e]
  rfl

/-- The scores before the mask. -/
theorem v88_at (nb : Fin 512) (h : Fin 4) (n : Fin 64) (l : Fin 256) :
    val_main_v88 (F := Ideal) x0 x1 x2 x5 x6 (ix4 nb h n l)
      = content (args x0 x1 x2 x3 x4 x5 x6 x7 x8) (pic nb) (row nb) (col nb) (qrow n) (qcol n) h l + byCol (args x0 x1 x2 x3 x4 x5 x6 x7 x8) (pic nb) (row nb) (col nb) (qrow n) (qcol n) h l
        + byRow (args x0 x1 x2 x3 x4 x5 x6 x7 x8) (pic nb) (row nb) (col nb) (qrow n) (qcol n) h l := by
  pointwise [val_main_v88, val_main_v87, val_main_v86, val_main_v85, val_main_v84, val_main_v83, val_main_v82, val_main_v81, val_main_v80,
    val_main_v71]
  exact congrArg₂ (· + ·) (congrArg₂ (· + ·) (v52_at x0 x1 x2 x3 x4 x5 x6 x7 x8 nb h n l) (v70_at x0 x1 x2 x3 x4 x5 x6 x7 x8 nb h n l))
    (v79_at x0 x1 x2 x3 x4 x5 x6 x7 x8 nb h n l)

/-- The mask: set where a window's pixel is a pixel of the picture. -/
theorem v104_at (i : Fin 8) (u : Fin 16) (j : Fin 8) (v : Fin 16) :
    val_main_v104 (F := Ideal) (ix4 i u j v)
      = if (4 ≤ 8 * i.val + u.val ∧ 8 * i.val + u.val < 68) ∧ (4 ≤ 8 * j.val + v.val ∧ 8 * j.val + v.val < 68) then 1#1 else 0#1 := by
  unfold val_main_v104
  refine (Gather.maskCols_apply _ _ _ i u j v ⟨8 * j.val + v.val, by omega⟩ ?_).trans ?_
  · pointwise [val_main_v103, val_main_v102, val_main_v101, val_main_v100, val_main_v99, val_main_v98, val_main_v21, val_main_v20,
      val_main_v19, val_main_v18, val_main_v17, val_main_v16, val_main_v15, val_main_v14, val_main_v13, val_main_c_1, val_main_c_15,
      val_main_c_16]
    revert j v
    decide +kernel
  · unfold val_main_v97
    refine (Gather.rows_apply (by decide) _ _ _ i u _ ⟨8 * i.val + u.val, by omega⟩ ?_).trans ?_
    · pointwise [val_main_v96, val_main_v95, val_main_v94, val_main_v93, val_main_v92, val_main_v91, val_main_v12, val_main_v11,
        val_main_v10, val_main_v9, val_main_v8, val_main_v7, val_main_v6, val_main_v5, val_main_v4, val_main_c_0, val_main_c_13,
        val_main_c_14]
      revert i u
      decide +kernel
    · pointwise [val_main_v90, val_main_v89, val_main_c_11, val_main_call1_v2, val_main_call1_v1, val_main_call1_v0, val_main_call1_c,
        val_main_c_12]
      by_cases hh : (4 ≤ 8 * i.val + u.val ∧ 8 * i.val + u.val < 68) ∧ (4 ≤ 8 * j.val + v.val ∧ 8 * j.val + v.val < 68)
      · rw [if_pos hh, dif_pos (by omega)]
      · rw [if_neg hh, dif_neg (by omega)]
        rfl

/-- The masked scores. -/
theorem v110_at (nb : Fin 512) (h : Fin 4) (n : Fin 64) (l : Fin 256) :
    val_main_v110 (F := Ideal) x0 x1 x2 x5 x6 (ix4 nb h n l) = score (args x0 x1 x2 x3 x4 x5 x6 x7 x8) (pic nb) (row nb) (col nb) (qrow n) (qcol n) h l := by
  pointwise [val_main_v110, val_main_call2_v0, val_main_call2_v1, val_main_cst_17, val_main_v109, val_main_v108, val_main_v107,
    val_main_v106, val_main_v105]
  rw [v88_at x0 x1 x2 x3 x4 x5 x6 x7 x8, v104_at, bot_word]
  have e : ((4 ≤ 8 * (nb.val % 64 / 8) + l.val / 16 ∧ 8 * (nb.val % 64 / 8) + l.val / 16 < 68) ∧
      (4 ≤ 8 * (nb.val % 64 % 8) + l.val % 16 ∧ 8 * (nb.val % 64 % 8) + l.val % 16 < 68)) ↔ inside (row nb) (col nb) l := by
    simp only [inside, row, col]
    omega
  simp only [e]
  unfold score
  by_cases hh : inside (row nb) (col nb) l
  · rw [if_pos hh, if_pos hh]
    rfl
  · rw [if_neg hh, if_neg hh]
    rfl

/-- A maximum over the keys, from minus infinity. -/
theorem max_keys (s : FVec Ideal S512x4x64x256 .f32) (nb : Fin 512) (h : Fin 4) (n : Fin 64) :
    Host.reduce (α := Ideal .f32) FloatOps.maximumf s (val_main_cst_18 (F := Ideal)) Gen.reducesTo_S512x4x64x256_S512x4x64_d3 Gen.h_S_
        (ix3 nb h n)
      = Finset.univ.fold max ⊥ fun l => s (ix4 nb h n l) := by
  pointwise [val_main_cst_18]
  rw [bot_word]

/-- The greatest score. -/
theorem v113_at (nb : Fin 512) (h : Fin 4) (n : Fin 64) :
    val_main_v113 (F := Ideal) x0 x1 x2 x5 x6 (ix3 nb h n)
      = top (args x0 x1 x2 x3 x4 x5 x6 x7 x8) (pic nb) (row nb) (col nb) (qrow n) (qcol n) h := by
  have h1 : val_main_v111 (F := Ideal) x0 x1 x2 x5 x6 (ix3 nb h n)
      = Finset.univ.fold max ⊥ fun l => val_main_v110 (F := Ideal) x0 x1 x2 x5 x6 (ix4 nb h n l) := max_keys _ nb h n
  have h2 : val_main_v112 (F := Ideal) (ix3 nb h n) = (⊥ : EReal) := by
    pointwise [val_main_v112, val_main_cst_19]
    rw [bot_word]
  rw [val_main_v113_apply, h1, h2]
  refine (max_eq_right bot_le).trans ?_
  exact congrArg (Finset.univ.fold max ⊥) (funext fun l => v110_at x0 x1 x2 x3 x4 x5 x6 x7 x8 nb h n l)

/-- A score's exponential. -/
theorem v117_at (nb : Fin 512) (h : Fin 4) (n : Fin 64) (l : Fin 256) :
    val_main_v117 (F := Ideal) x0 x1 x2 x5 x6 (ix4 nb h n l)
      = Ideal.exp (score (args x0 x1 x2 x3 x4 x5 x6 x7 x8) (pic nb) (row nb) (col nb) (qrow n) (qcol n) h l - top (args x0 x1 x2 x3 x4 x5 x6 x7 x8) (pic nb) (row nb) (col nb) (qrow n) (qcol n) h) := by
  pointwise [val_main_v117, val_main_v116, val_main_v115, val_main_v114]
  rw [v110_at x0 x1 x2 x3 x4 x5 x6 x7 x8, v113_at x0 x1 x2 x3 x4 x5 x6 x7 x8]

/-- The attended rows. -/
theorem v122_at (nb : Fin 512) (h : Fin 4) (n : Fin 64) (d : Fin 64) :
    val_main_v122 (F := Ideal) x0 x1 x2 x5 x6 (ix4 nb h n d) = attSoft (args x0 x1 x2 x3 x4 x5 x6 x7 x8) (pic nb) (row nb) (col nb) (qrow n) (qcol n) h d := by
  pointwise [val_main_v122, val_main_v121, val_main_v120, val_main_v119, val_main_v118, val_main_cst_20,
    dot_S512x4x64x256_S512x4x256x64_S512x4x64x64_3_2_2_3_01_01]
  unfold attSoft
  refine Finset.sum_congr rfl fun l _ => ?_
  simp only [v117_at x0 x1 x2 x3 x4 x5 x6 x7 x8, v51_at x0 x1 x2 x3 x4 x5 x6 x7 x8]

/-- The projected rows. -/
theorem v129_at (nb : Fin 512) (n : Fin 64) (c : Fin 256) :
    val_main_v129 (F := Ideal) x0 x1 x2 x3 x4 x5 x6 (ix3 nb n c)
      = ∑ e : Fin 256, attSoft (args x0 x1 x2 x3 x4 x5 x6 x7 x8) (pic nb) (row nb) (col nb) (qrow n) (qcol n) ⟨e.val / 64, by omega⟩ ⟨e.val % 64, by omega⟩ * x3 (ix2 c e)
        + x4 (ix1 c) := by
  pointwise [val_main_v129, val_main_v128, val_main_v127, val_main_v126, val_main_v125, val_main_v124, val_main_v123,
    dot_S512x64x256_S256x256_S512x64x256_2_0_01_1_n_n]
  simp only [v122_at x0 x1 x2 x3 x4 x5 x6 x7 x8]

/-- A function of a block's and a query's coordinates, at the numbers that they are. -/
theorem at_block (f : Fin 8 → Fin 8 → Fin 8 → Fin 8 → Fin 8 → EReal) (nb : Fin 512) (n : Fin 64) (b i j y x : Fin 8)
    (hb : nb.val / 64 = b.val) (hi : nb.val / 8 % 8 = i.val) (hj : nb.val % 8 = j.val) (hy : n.val / 8 = y.val) (hx : n.val % 8 = x.val) :
    f (pic nb) (row nb) (col nb) (qrow n) (qcol n) = f b i j y x := by
  rw [show pic nb = b from Fin.ext hb, show row nb = i from Fin.ext hi, show col nb = j from Fin.ext hj, show qrow n = y from Fin.ext hy,
    show qcol n = x from Fin.ext hx]

/-- The reference's result. -/
theorem v140_at (b : Fin 8) (ch : Fin 256) (Y X : Fin 128) :
    val_main_v140 (F := Ideal) x0 x1 x2 x3 x4 x5 x6 x7 x8 (ix4 b ch Y X) = picture (args x0 x1 x2 x3 x4 x5 x6 x7 x8) (attSoft (args x0 x1 x2 x3 x4 x5 x6 x7 x8)) b ch Y X := by
  pointwise [val_main_v140, val_main_v139, val_main_v138, val_main_v137, val_main_v136, val_main_v135, val_main_v134, val_main_v133,
    val_main_v132, val_main_v131, val_main_v130, dot_S1024x256_S8x256x64x64_S1024x8x64x64_1_1_0_023_n_n]
  unfold picture conv
  refine congrArg₂ (· + ·) (Finset.sum_congr rfl fun c _ => ?_) ?_
  · rw [mul_comm, v129_at x0 x1 x2 x3 x4 x5 x6 x7 x8]
    refine congrArg₂ (· * ·) (congrArg (· + _) (Finset.sum_congr rfl fun e _ => congrArg (· * _) ?_)) ?_
    · refine at_block (fun b i j y x => attSoft (args x0 x1 x2 x3 x4 x5 x6 x7 x8) b i j y x _ _) _ _ _ _ _ _ _ ?_ ?_ ?_ ?_ ?_ <;>
        simp only <;> omega
    · simp only [args]
      congr 2
      apply Fin.ext
      simp only
      omega
  · simp only [args]
    congr 2
    apply Fin.ext
    simp only
    omega

end Cert.ReferenceIdeal.Plain
-- ==== Proof.Reals.lean ====
module
public import proofs.«01_k».proof.Pre_finite
public import proofs.«01_k».proof.Proof.RefRead
public import Idealize.ShloMosaic.Lib.ReduceAll
@[expose] public section
set_option maxRecDepth 16384
noncomputable section
namespace Cert.Pre_finite
open Idealize.ShloMosaic Cert.Spec

/-! What the precondition says: the picture, the query and key weights and the two position tables are real numbers. -/

/-- The shape relations of the precondition's operations. -/
theorem facts : Facts where
  bcast_S_S8x256x64x64 := by decide
  reducesTo_S8x256x64x64_S_d0_1_2_3 := by decide
  h_S_ := by decide
  bcast_S_S256x256 := by decide
  reducesTo_S256x256_S_d0_1 := by decide
  slices_S512x256_S256x256_0_0 := by decide
  bcast_S_S31x64 := by decide
  reducesTo_S31x64_S_d0_1 := by decide

attribute [local instance] facts

/-- The float word of infinity. -/
theorem top_word : Ideal.ofBits .f32 0x7F800000#32 = ⊤ := by
  unfold Ideal.ofBits Ideal.ieee
  simp only
  rw [if_pos (by decide)]
  rfl

/-- A number whose absolute value is below infinity is real. -/
theorem real_of_abs (a : EReal) (h : max a (-a) < ⊤) : IsReal a := by
  induction a with
  | bot => simp at h
  | top => simp at h
  | coe r => exact ⟨r, rfl⟩

/-- An array of which every absolute value is below infinity holds real numbers. -/
theorem real_of_all {s : Shape} {axes : List (Fin s.rank)} (x : FVec Ideal s .f32) (hb : S_.BroadcastsInDim s ![])
    (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) (i : s.Idx) : IsReal (x i) := by
  haveI : Subsingleton S_.Idx := ⟨fun a b => funext fun k => k.elim0⟩
  have e1 : BitVec.ofBool (decide (max (x i) (-(x i)) < Ideal.ofBits .f32 0x7F800000#32)) = 1#1 := Host.reduce_andi_all _ _ h hu j e i
  rw [top_word] at e1
  refine real_of_abs _ ?_
  by_contra hn
  rw [decide_eq_false hn] at e1
  exact absurd e1 (by decide)

/-- The precondition makes the arguments real where the claim needs it. -/
theorem finite_args (x0 : FVec Ideal S8x256x64x64 .f32) (x1 : FVec Ideal S256x256 .f32) (x2 : FVec Ideal S512x256 .f32)
    (x3 : FVec Ideal S256x256 .f32) (x4 : FVec Ideal S256 .f32) (x5 x6 : FVec Ideal S31x64 .f32) (x7 : FVec Ideal S1024x256 .f32)
    (x8 : FVec Ideal S1024 .f32) (h : fn (F := Ideal) x0 x1 x2 x3 x4 x5 x6 x7 x8 = fun _ => 1#1) :
    Finite (Cert.ReferenceIdeal.Plain.args x0 x1 x2 x3 x4 x5 x6 x7 x8) := by
  have e := congrFun h fun k => k.elim0
  unfold fn fn_part1 at e
  obtain ⟨e, e6⟩ := IntOp.andi_eq_one.1 e
  obtain ⟨e, e5⟩ := IntOp.andi_eq_one.1 e
  obtain ⟨e, e2⟩ := IntOp.andi_eq_one.1 e
  obtain ⟨e0, e1⟩ := IntOp.andi_eq_one.1 e
  refine ⟨fun b k r c => real_of_all x0 _ _ _ _ e0 _, fun a k => real_of_all x1 _ _ _ _ e1 _, fun a k ha => ?_,
    fun a d => real_of_all x5 _ _ _ _ e5 _, fun a d => real_of_all x6 _ _ _ _ e6 _⟩
  obtain ⟨r, hr⟩ := real_of_all _ _ _ _ _ e2 (ix2 ⟨a.val, ha⟩ k)
  have e : extractStridedSlice S256x256 ![0, 0] x2 facts.slices_S512x256_S256x256_0_0 (ix2 ⟨a.val, ha⟩ k) = x2 (ix2 a k) := by
    pointwise
  exact ⟨r, e.symm.trans hr⟩

end Cert.Pre_finite
-- ==== Proof.Tile.lean ====
/- The kernel's body as a function of the column block `j` and the head `h`: the printed body spells each of the
   8 x 4 blocks out, and here each is one definition over `j` and `h`. -/
module

public import proofs.«01_k».proof.Proof.Gen.KernelIdeal.Frame

@[expose] public section

set_option maxRecDepth 16384

noncomputable section

namespace Cert.KernelIdeal.Tile

open Idealize.ShloMosaic Cert.KernelIdeal.Gen

variable {F : FTy → Type} [FloatOps F] [Named F]

/-- A head's 64 of the 256 query columns lie within them. -/
theorem slQ (h : Fin 4) : S512x256.Slices ![0, 64 * h.val] S512x64 := by revert h; decide
/-- A head's 64 key columns lie within the 512 key and value columns. -/
theorem slK (h : Fin 4) : S256x512.Slices ![0, 64 * h.val] S256x64 := by revert h; decide
/-- A head's 64 value columns lie within the 512 key and value columns. -/
theorem slV (h : Fin 4) : S256x512.Slices ![0, 256 + 64 * h.val] S256x64 := by revert h; decide
/-- The 16 columns of window `j` lie within the strip. -/
theorem slW (j : Fin 8) : S16x80x512.Slices ![0, 8 * j.val, 0] S16x16x512 := by revert j; decide
/-- Column block `j` of the queries lies within them. -/
theorem slB (j : Fin 8) : S8x8x8x64.Slices ![0, j.val, 0, 0] S8x1x8x64 := by revert j; decide
/-- Column block `j` of the position scores lies within them. -/
theorem slR (j : Fin 8) : S8x8x8x256.Slices ![0, j.val, 0, 0] S8x1x8x256 := by revert j; decide
/-- Block `j`'s 64 rows lie within the strip's 512. -/
theorem slO (j : Fin 8) : S512x1024.Slices ![64 * j.val, 0] S64x1024 := by revert j; decide

/-- The grid step's row block, as the body computes it from the step's number. -/
def stepWord (w : BitVec 32) : BitVec 32 :=
  Scalar.select (Scalar.andi (Scalar.xori (Scalar.cmpi .slt (Scalar.remsi w (Scalar.select (Scalar.cmpi .eq 8#32 0#32) 1#32 8#32)) 0#32) (Scalar.cmpi .slt (Scalar.select (Scalar.cmpi .eq 8#32 0#32) 1#32 8#32) 0#32)) (Scalar.cmpi .ne (Scalar.remsi w (Scalar.select (Scalar.cmpi .eq 8#32 0#32) 1#32 8#32)) 0#32)) (Scalar.addi (Scalar.remsi w (Scalar.select (Scalar.cmpi .eq 8#32 0#32) 1#32 8#32)) (Scalar.select (Scalar.cmpi .eq 8#32 0#32) 1#32 8#32)) (Scalar.remsi w (Scalar.select (Scalar.cmpi .eq 8#32 0#32) 1#32 8#32))

/-- A head's position scores against every key. -/
def rel (h : Fin 4) (q : FVec F S512x256 .bf16) (rt : Vec F S64x256 .bf16) (ms : Vec F S512x256 .bf16)
    (tc : Vec F S256x256 .bf16) : FVec F S512x256 .f32 :=
  matmul dot_S512x256_S256x256_S512x256_1_0_0_1_n_n none
    (mulf (truncf .bf16 (matmul dot_S512x64_S64x256_S512x256_1_0_0_1_n_n none
      (extractStridedSlice S512x64 ![0, 64 * h.val] q (slQ h)) (shapeCast S64x256 rt shapeCasts_S64x256_S64x256)
      (constant S512x256 .f32 0x00000000#32)) bitsLt_bf16_f32) (shapeCast S512x256 ms shapeCasts_S512x256_S512x256))
    (shapeCast S256x256 tc shapeCasts_S256x256_S256x256) (constant S512x256 .f32 0x00000000#32)

/-- A position's column in its window. -/
def colLane : IVec S1x256 32 := k0_pay16 k0_pay13 k0_pay14 k0_pay15

/-- The mask of column block `j`: the row's mask plus the column's. -/
def mask (w : BitVec 32) (j : Fin 8) : FVec F S1x256 .f32 :=
  addf (k0_pay17 (F := F) w k0_pay12)
    (select (andi (cmpi .sge (addi (broadcast S1x256 (BitVec.ofNat 32 (8 * j.val))) colLane) (broadcast S1x256 4#32))
        (cmpi .slt (addi (broadcast S1x256 (BitVec.ofNat 32 (8 * j.val))) colLane) (broadcast S1x256 68#32)))
      (broadcast S1x256 (Scalar.ofBits .f32 0x00000000#32 : F .f32)) (broadcast S1x256 (Named.named κ "mask" 0xC61C4000#32 : F .f32)))

/-- Window `j` of the keys and values. -/
def win (j : Fin 8) (kv : FVec F S16x80x512 .bf16) : FVec F S256x512 .bf16 :=
  shapeCast S256x512 (extractStridedSlice S16x16x512 ![0, 8 * j.val, 0] kv (slW j)) shapeCasts_S16x16x512_S256x512

/-- The scores of block `j` and head `h`. -/
def sim (j : Fin 8) (h : Fin 4) (q : FVec F S512x256 .bf16) (wn : FVec F S256x512 .bf16) : FVec F S64x256 .f32 :=
  matmul dot_S64x64_S256x64_S64x256_1_1_0_0_n_n none
    (shapeCast S64x64 (shapeCast S8x8x64 (extractStridedSlice S8x1x8x64 ![0, j.val, 0, 0]
      (shapeCast S8x8x8x64 (extractStridedSlice S512x64 ![0, 64 * h.val] q (slQ h)) shapeCasts_S512x64_S8x8x8x64) (slB j))
      shapeCasts_S8x1x8x64_S8x8x64) shapeCasts_S8x8x64_S64x64)
    (extractStridedSlice S256x64 ![0, 64 * h.val] wn (slK h)) (constant S64x256 .f32 0x00000000#32)

/-- The exponentials of block `j`'s scores, the positions' scores and the mask added. -/
def pexp (j : Fin 8) (s : FVec F S64x256 .f32) (r : FVec F S512x256 .f32) (m : FVec F S1x256 .f32) : FVec F S64x256 .f32 :=
  exp (addf (addf s (shapeCast S64x256 (shapeCast S8x8x256 (extractStridedSlice S8x1x8x256 ![0, j.val, 0, 0]
    (shapeCast S8x8x8x256 r shapeCasts_S512x256_S8x8x8x256) (slR j)) shapeCasts_S8x1x8x256_S8x8x256) shapeCasts_S8x8x256_S64x256))
    (broadcastTo S64x256 m broadcasts_S1x256_S64x256))

/-- The weighted values of head `h`, divided by the weights' sum. -/
def att (h : Fin 4) (p : FVec F S64x256 .f32) (wn : FVec F S256x512 .bf16) : FVec F S64x64 .f32 :=
  divf (matmul dot_S64x256_S256x64_S64x64_1_0_0_1_n_n none (truncf .bf16 p bitsLt_bf16_f32)
      (extractStridedSlice S256x64 ![0, 256 + 64 * h.val] wn (slV h)) (constant S64x64 .f32 0x00000000#32))
    (broadcastTo S64x64 (shapeCast S64x1 (multiReduction .add [1] S64 p 0x00000000#32 reduces_S64x256_S64 (.inl rfl) rfl) shapeCasts_S64_S64x1)
      broadcasts_S64x1_S64x64)

/-- The attention of block `j` and head `h` from the queries, the keys and values, the position tables and the step. -/
def head (w : BitVec 32) (q : FVec F S512x256 .bf16) (kv : FVec F S16x80x512 .bf16) (rt : Vec F S64x256 .bf16)
    (ms : Vec F S512x256 .bf16) (tc : Vec F S256x256 .bf16) (j : Fin 8) (h : Fin 4) : FVec F S64x64 .f32 :=
  att h (pexp j (sim j h q (win j kv)) (rel h q rt ms tc) (mask w j)) (win j kv)

/-- Four heads side by side. -/
def heads (f : Fin 4 → FVec F S64x64 .f32) : FVec F S64x256 .f32 :=
  concatenate S64x256 1 [⟨S64x64, f 0⟩, ⟨S64x64, f 1⟩, ⟨S64x64, f 2⟩, ⟨S64x64, f 3⟩] concatenates_S64x64_S64x64_S64x64_S64x64_S64x256_d1

/-- Eight blocks one under the other. -/
def blocks (f : Fin 8 → FVec F S64x256 .f32) : FVec F S512x256 .f32 :=
  concatenate S512x256 0 [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩] concatenates_S64x256_S64x256_S64x256_S64x256_S64x256_S64x256_S64x256_S64x256_S512x256_d0

/-- The output projection and the 1x1 convolution. -/
def proj (y : FVec F S512x256 .f32) (wo : Vec F S256x256 .bf16) (bo : Vec F S1x256 .f32) (wc : Vec F S256x1024 .bf16)
    (bc : Vec F S1x1024 .f32) : FVec F S512x1024 .bf16 :=
  truncf .bf16 (addf (matmul dot_S512x256_S256x1024_S512x1024_1_0_0_1_n_n none
    (truncf .bf16 (addf (matmul dot_S512x256_S256x256_S512x256_1_0_0_1_n_n none (truncf .bf16 y bitsLt_bf16_f32)
        (shapeCast S256x256 wo shapeCasts_S256x256_S256x256) (constant S512x256 .f32 0x00000000#32))
      (broadcastTo S512x256 (shapeCast S1x256 bo shapeCasts_S1x256_S1x256) broadcasts_S1x256_S512x256)) bitsLt_bf16_f32)
    (shapeCast S256x1024 wc shapeCasts_S256x1024_S256x1024) (constant S512x1024 .f32 0x00000000#32))
    (broadcastTo S512x1024 (shapeCast S1x1024 bc shapeCasts_S1x1024_S1x1024) broadcasts_S1x1024_S512x1024)) bitsLt_bf16_f32

/-- Everything a step computes before its stores. -/
def conv (w : BitVec 32) (x0 x1 : Vec F S1x8x80x256 .bf16) (x2 : Vec F S256x256 .bf16) (x3 : Vec F S256x512 .bf16)
    (x4 : Vec F S256x256 .bf16) (x5 : Vec F S1x256 .f32) (x6 : Vec F S64x256 .bf16) (x7 : Vec F S512x256 .bf16)
    (x8 : Vec F S256x256 .bf16) (x9 : Vec F S256x1024 .bf16) (x10 : Vec F S1x1024 .f32) : FVec F S512x1024 .bf16 :=
  proj (blocks fun j => heads fun h => head (stepWord w) (k0_pay4 x0 x1 x2) (k0_pay3 x0 x1 x3) x6 x7 x8 j h) x4 x5 x9 x10

/-- Block `j` of what is stored. -/
def piece (c : FVec F S512x1024 .bf16) (j : Fin 8) : FVec F S1x1x8x8x1024 .bf16 :=
  shapeCast S1x1x8x8x1024 (shapeCast S8x8x1024 (extractStridedSlice S64x1024 ![64 * j.val, 0] c (slO j))
    shapeCasts_S64x1024_S8x8x1024) shapeCasts_S8x8x1024_S1x1x8x8x1024

/-- The strip that the step stores is the convolution of its eight blocks, from the blocks as they are loaded. -/
theorem conv_eq (i : grid0.Coords) (x0 x1 : Vec F S1x8x80x256 .bf16) (x2 : Vec F S256x256 .bf16) (x3 : Vec F S256x512 .bf16)
    (x4 : Vec F S256x256 .bf16) (x5 : Vec F S1x256 .f32) (x6 : Vec F S64x256 .bf16) (x7 : Vec F S512x256 .bf16)
    (x8 : Vec F S256x256 .bf16) (x9 : Vec F S256x1024 .bf16) (x10 : Vec F S1x1024 .f32) :
    k0_pay301 i x0 x1 x2 x3 x4 x5 x6 x7 x8 x9 x10
      = conv (BitVec.ofNat 32 (i 0).val) (View.ld x0 r0_0) (View.ld x1 r0_0) (View.ld x2 r0_2) (View.ld x3 r0_1) (View.ld x4 r0_2)
          (View.ld x5 r0_5) (View.ld x6 r0_3) (View.ld x7 r0_4) (View.ld x8 r0_2) (View.ld x9 r0_6) (View.ld x10 r0_7) := rfl

end Cert.KernelIdeal.Tile

end
-- ==== Proof.TileRead.lean ====
module
public import proofs.«01_k».proof.Proof.Tile
public import Idealize.ShloMosaic.Lib.Pointwise
@[expose] public section
set_option maxRecDepth 16384
noncomputable section
namespace Cert.KernelIdeal.Tile
open Idealize.ShloMosaic Cert.KernelIdeal.Gen

/-- The row block of step `8b + i` is `i`. -/
theorem stepWord_eq (b i : Fin 8) : stepWord (BitVec.ofNat 32 (8 * b.val + i.val)) = BitVec.ofNat 32 i.val := by
  revert b i
  decide +kernel

/-- The column within its window of window position `l`. -/
theorem colLane_apply (l : Fin 256) : colLane (ix2 0 l) = BitVec.ofNat 32 (l.val % 16) := by
  pointwise [colLane, k0_pay16, k0_pay13, k0_pay14, k0_pay15]
  revert l
  decide +kernel

/-- The value of the mask's constant. -/
theorem named_mask : (Named.named κ "mask" 0xC61C4000#32 : Ideal .f32) = (⊥ : EReal) :=
  IdealRules.named_const.ideal_named_scalar _ _ _ _ rfl

/-- A choice on a decided word. -/
theorem select_of_eq (c : BitVec 1) (p : Prop) [Decidable p] (h : c = if p then 1#1 else 0#1) (x y : EReal) :
    Scalar.select c x y = if p then x else y := by
  subst h
  by_cases hp : p
  · simp only [if_pos hp]; rfl
  · simp only [if_neg hp]; rfl

/-- The row's mask at window position `l`: 0 where the row lies within the picture, −∞ elsewhere. -/
theorem row_apply (i : Fin 8) (l : Fin 256) :
    (k0_pay17 (F := Ideal) (BitVec.ofNat 32 i.val) k0_pay12) (ix2 0 l)
      = (if 4 ≤ 8 * i.val + l.val / 16 ∧ 8 * i.val + l.val / 16 < 68 then 0 else ⊥ : EReal) := by
  pointwise [k0_pay17, k0_pay12]
  rw [named_mask]
  refine select_of_eq _ _ ?_ _ _
  revert i l
  decide +kernel

/-- The mask of column block `j` at window position `l`. -/
theorem mask_apply (i j : Fin 8) (l : Fin 256) :
    (mask (F := Ideal) (BitVec.ofNat 32 i.val) j) (ix2 0 l)
      = ((if 4 ≤ 8 * i.val + l.val / 16 ∧ 8 * i.val + l.val / 16 < 68 then 0 else ⊥ : EReal)
        + (if 4 ≤ 8 * j.val + l.val % 16 ∧ 8 * j.val + l.val % 16 < 68 then 0 else ⊥ : EReal)) := by
  pointwise [mask]
  rw [named_mask, row_apply, colLane_apply]
  congr 1
  refine select_of_eq _ _ ?_ _ _
  revert j l
  decide +kernel

/-- Row `n` of block `j` of the stacked blocks. -/
theorem blocks_apply (f : Fin 8 → FVec Ideal S64x256 .f32) (j : Fin 8) (n : Fin 64) (e : Fin 256) :
    blocks f (ix2 ⟨64 * j.val + n.val, by omega⟩ e) = f j (ix2 n e) := by
  refine concatenate_ofFn_apply (s₁ := S64x256) 0 f concatenates_S64x256_S64x256_S64x256_S64x256_S64x256_S64x256_S64x256_S64x256_S512x256_d0
    rfl 64 rfl _ j ?_ _ ?_ ?_
  · show (64 * j.val + n.val) / 64 = j.val
    omega
  · show n.val = (64 * j.val + n.val) % 64
    omega
  · intro b hb
    match b, hb with
    | ⟨0, _⟩, hb => exact absurd rfl hb
    | ⟨1, _⟩, _ => rfl

/-- Column `d` of head `h` of the heads side by side. -/
theorem heads_apply (f : Fin 4 → FVec Ideal S64x64 .f32) (h : Fin 4) (n : Fin 64) (d : Fin 64) :
    heads f (ix2 n ⟨64 * h.val + d.val, by omega⟩) = f h (ix2 n d) := by
  refine concatenate_ofFn_apply (s₁ := S64x64) 1 f concatenates_S64x64_S64x64_S64x64_S64x64_S64x256_d1 rfl 64 rfl _ h ?_ _ ?_ ?_
  · show (64 * h.val + d.val) / 64 = h.val
    omega
  · show d.val = (64 * h.val + d.val) % 64
    omega
  · intro b hb
    match b, hb with
    | ⟨0, _⟩, _ => rfl
    | ⟨1, _⟩, hb => exact absurd rfl hb

/-- The scores of a block and a head: a query row against a window row. -/
theorem sim_apply (j : Fin 8) (h : Fin 4) (q : FVec Ideal S512x256 .bf16) (wn : FVec Ideal S256x512 .bf16) (n : Fin 64) (l : Fin 256)
    (p : Fin 512) (hp : p.val = 64 * (n.val / 8) + 8 * j.val + n.val % 8) :
    sim j h q wn (ix2 n l)
      = ∑ d : Fin 64, q (ix2 p ⟨64 * h.val + d.val, by omega⟩) * wn (ix2 l ⟨64 * h.val + d.val, by omega⟩) := by
  pointwise [sim, dot_S64x64_S256x64_S64x256_1_1_0_0_n_n]
  have : p = ⟨n.val / 8 * 64 + j.val * 8 + n.val % 8, by omega⟩ := Fin.ext (by simp; omega)
  rw [this]

/-- A window's row `l` is strip row `l / 16`, column `8j + l % 16`. -/
theorem win_apply (j : Fin 8) (kv : FVec Ideal S16x80x512 .bf16) (l : Fin 256) (e : Fin 512) :
    win j kv (ix2 l e) = kv (ix3 ⟨l.val / 16, by omega⟩ ⟨8 * j.val + l.val % 16, by omega⟩ e) := by
  pointwise [win]

/-- A key's weight for a query. -/
theorem pexp_apply (j : Fin 8)  (s : FVec Ideal S64x256 .f32) (r : FVec Ideal S512x256 .f32) (m : FVec Ideal S1x256 .f32) (n : Fin 64)
    (l : Fin 256) (p : Fin 512) (hp : p.val = 64 * (n.val / 8) + 8 * j.val + n.val % 8) :
    pexp j s r m (ix2 n l) = Ideal.exp (s (ix2 n l) + r (ix2 p l) + m (ix2 0 l)) := by
  pointwise [pexp]
  have : p = ⟨n.val / 8 * 64 + j.val * 8 + n.val % 8, by omega⟩ := Fin.ext (by simp; omega)
  rw [this]

/-- A head's value: the weighted sum of the values over the sum of the weights. -/
theorem att_apply (h : Fin 4)  (p : FVec Ideal S64x256 .f32) (wn : FVec Ideal S256x512 .bf16) (n : Fin 64) (d : Fin 64) :
    att h p wn (ix2 n d)
      = Ideal.div (∑ l : Fin 256, p (ix2 n l) * wn (ix2 l ⟨256 + 64 * h.val + d.val, by omega⟩)) (∑ l : Fin 256, p (ix2 n l)) := by
  pointwise [att, dot_S64x256_S256x64_S64x64_1_0_0_1_n_n]

/-- The position scores: the query against the table's columns, the columns picked for the query, then for the key. -/
theorem rel_apply (h : Fin 4) (q : FVec Ideal S512x256 .bf16) (rt : Vec Ideal S64x256 .bf16) (ms : Vec Ideal S512x256 .bf16)
    (tc : Vec Ideal S256x256 .bf16) (n : Fin 512) (l : Fin 256) :
    rel h q rt ms tc (ix2 n l)
      = ∑ m : Fin 256, (∑ d : Fin 64, q (ix2 n ⟨64 * h.val + d.val, by omega⟩) * rt (ix2 d m)) * ms (ix2 n m) * tc (ix2 m l) := by
  pointwise [rel, dot_S512x256_S256x256_S512x256_1_0_0_1_n_n, dot_S512x64_S64x256_S512x256_1_0_0_1_n_n]

/-- The output projection and the convolution at a row and an output channel. -/
theorem proj_apply (y : FVec Ideal S512x256 .f32) (wo : Vec Ideal S256x256 .bf16) (bo : Vec Ideal S1x256 .f32)
    (wc : Vec Ideal S256x1024 .bf16) (bc : Vec Ideal S1x1024 .f32) (p : Fin 512) (o : Fin 1024) :
    proj y wo bo wc bc (ix2 p o)
      = ∑ c : Fin 256, (∑ e : Fin 256, y (ix2 p e) * wo (ix2 e c) + bo (ix2 0 c)) * wc (ix2 c o) + bc (ix2 0 o) := by
  pointwise [proj, dot_S512x256_S256x256_S512x256_1_0_0_1_n_n, dot_S512x256_S256x1024_S512x1024_1_0_0_1_n_n]

/-- Row `r` of the strip of a step: the first block's rows, then the second's. -/
def strip (x0 x1 : Vec Ideal S1x8x80x256 .bf16) (r : Fin 16) (c : Fin 80) (e : Fin 256) : EReal :=
  if h : r.val < 8 then x0 (ix4 0 ⟨r.val, h⟩ c e) else x1 (ix4 0 ⟨r.val - 8, by omega⟩ c e)

/-- The two blocks one under the other. -/
theorem pay2_apply (x0 x1 : Vec Ideal S1x8x80x256 .bf16) (r : Fin 16) (c : Fin 80) (e : Fin 256) :
    k0_pay2 x0 x1 (ix3 r c e) = strip x0 x1 r c e := by
  pointwise [k0_pay2]
  rfl

/-- The scaled queries. -/
theorem q_apply (x0 x1 : Vec Ideal S1x8x80x256 .bf16) (x2 : Vec Ideal S256x256 .bf16) (p : Fin 512) (e : Fin 256) :
    k0_pay4 x0 x1 x2 (ix2 p e)
      = (∑ c : Fin 256, strip x0 x1 ⟨4 + p.val / 64, by omega⟩ ⟨4 + p.val % 64, by omega⟩ c * x2 (ix2 c e))
        * Ideal.ofBits .f32 0x3E000000#32 := by
  pointwise [k0_pay4, dot_S512x256_S256x256_S512x256_1_0_0_1_n_n]
  simp only [pay2_apply]

/-- The keys and values. -/
theorem kv_apply (x0 x1 : Vec Ideal S1x8x80x256 .bf16) (x3 : Vec Ideal S256x512 .bf16) (r : Fin 16) (c : Fin 80) (e : Fin 512) :
    k0_pay3 x0 x1 x3 (ix3 r c e) = ∑ k : Fin 256, strip x0 x1 r c k * x3 (ix2 k e) := by
  pointwise [k0_pay3, dot_S1280x256_S256x512_S1280x512_1_0_0_1_n_n]
  simp only [pay2_apply]

/-- Block `j` of what is stored, at query row `y` and column `x`. -/
theorem piece_apply (c : FVec Ideal S512x1024 .bf16) (j : Fin 8) (a b : Fin 1) (y x : Fin 8) (o : Fin 1024) :
    piece c j (ix5 a b y x o) = c (ix2 ⟨64 * j.val + (8 * y.val + x.val), by omega⟩ o) := by
  pointwise [piece]
  congr 3
  omega
end Cert.KernelIdeal.Tile
-- ==== Proof.Step.lean ====
module
public import proofs.«01_k».proof.Proof.TileRead
public import proofs.«01_k».proof.Proof.Spec
@[expose] public section
set_option maxRecDepth 16384
noncomputable section
namespace Cert.KernelIdeal.Tile
open Idealize.ShloMosaic Cert.KernelIdeal.Gen Cert.Spec

/-- What the blocks of step `8b + i` hold, in the arguments' terms. -/
structure Holds (A : Args) (b i : Fin 8) (x0 x1 : Vec Ideal S1x8x80x256 .bf16) (x2 : Vec Ideal S256x256 .bf16) (x3 : Vec Ideal S256x512 .bf16)
    (x4 : Vec Ideal S256x256 .bf16) (x5 : Vec Ideal S1x256 .f32) (x6 : Vec Ideal S64x256 .bf16) (x7 : Vec Ideal S512x256 .bf16)
    (x8 : Vec Ideal S256x256 .bf16) (x9 : Vec Ideal S256x1024 .bf16) (x10 : Vec Ideal S1x1024 .f32) : Prop where
  x : ∀ r c k, strip x0 x1 r c k = xp A b (8 * i.val + r.val) c.val k
  wq : ∀ k e, x2 (ix2 k e) = A.wq e k
  wkv : ∀ k e, x3 (ix2 k e) = A.wkv e k
  wo : ∀ e c, x4 (ix2 e c) = A.wo c e
  bo : ∀ c, x5 (ix2 0 c) = A.bo c
  rw : ∀ (d : Fin 64) (m : Fin 256), m.val < 128 → x6 (ix2 d m) = A.rw ⟨m.val % 16 + 15 - m.val / 16, by omega⟩ d
  rh : ∀ (d : Fin 64) (m : Fin 256), 128 ≤ m.val → x6 (ix2 d m) = A.rh ⟨m.val % 16 + 15 - (m.val / 16 - 8), by omega⟩ d
  selW : ∀ (p : Fin 512) (m : Fin 256), m.val < 128 → x7 (ix2 p m) = if p.val % 8 = m.val / 16 then (1 : EReal) else 0
  selH : ∀ (p : Fin 512) (m : Fin 256), 128 ≤ m.val → x7 (ix2 p m) = if p.val / 64 = m.val / 16 - 8 then (1 : EReal) else 0
  keyW : ∀ m l : Fin 256, m.val < 128 → x8 (ix2 m l) = if l.val % 16 = m.val % 16 then (1 : EReal) else 0
  keyH : ∀ m l : Fin 256, 128 ≤ m.val → x8 (ix2 m l) = if l.val / 16 = m.val % 16 then (1 : EReal) else 0
  wc : ∀ c o, x9 (ix2 c o) = A.wc o c
  bc : ∀ o, x10 (ix2 0 o) = A.bc o

variable {A : Args} {b i : Fin 8} {x0 x1 : Vec Ideal S1x8x80x256 .bf16} {x2 : Vec Ideal S256x256 .bf16} {x3 : Vec Ideal S256x512 .bf16}
    {x4 : Vec Ideal S256x256 .bf16} {x5 : Vec Ideal S1x256 .f32} {x6 : Vec Ideal S64x256 .bf16} {x7 : Vec Ideal S512x256 .bf16}
    {x8 : Vec Ideal S256x256 .bf16} {x9 : Vec Ideal S256x1024 .bf16} {x10 : Vec Ideal S1x1024 .f32}

/-- The query's row in the strip of eight blocks. -/
def row (j y x : Fin 8) : Fin 512 := ⟨64 * y.val + 8 * j.val + x.val, by omega⟩

/-- The queries of a step. -/
theorem Holds.q (H : Holds A b i x0 x1 x2 x3 x4 x5 x6 x7 x8 x9 x10) (j y x : Fin 8) (h : Fin 4) (d : Fin 64) :
    k0_pay4 x0 x1 x2 (ix2 (row j y x) ⟨64 * h.val + d.val, by omega⟩) = qb A b i j y x h d := by
  rw [q_apply]
  unfold qb Spec.q
  congr 1
  refine Finset.sum_congr rfl fun k _ => ?_
  rw [H.x, H.wq]
  congr 2 <;> simp only [row] <;> omega

/-- The keys and values of a window. -/
theorem Holds.key (H : Holds A b i x0 x1 x2 x3 x4 x5 x6 x7 x8 x9 x10) (j : Fin 8) (l : Fin 256) (e : Fin 512) :
    win j (k0_pay3 x0 x1 x3) (ix2 l e) = kv A b (8 * i.val + l.val / 16) (8 * j.val + l.val % 16) e := by
  rw [win_apply, kv_apply]
  unfold kv
  refine Finset.sum_congr rfl fun k _ => ?_
  rw [H.x, H.wkv]

/-- The position scores are the column's and the row's: the selectors keep one column of the table for each. -/
theorem Holds.rel (H : Holds A b i x0 x1 x2 x3 x4 x5 x6 x7 x8 x9 x10) (j y x : Fin 8) (h : Fin 4) (l : Fin 256) :
    rel h (k0_pay4 x0 x1 x2) x6 x7 x8 (ix2 (row j y x) l) = byCol A b i j y x h l + byRow A b i j y x h l := by
  have hp : (row j y x).val % 8 = x.val := by simp only [row]; omega
  have hp' : (row j y x).val / 64 = y.val := by simp only [row]; omega
  rw [rel_apply]
  simp only [H.q]
  rw [Finset.sum_eq_add (⟨16 * x.val + l.val % 16, by omega⟩ : Fin 256) ⟨128 + 16 * y.val + l.val / 16, by omega⟩]
  · unfold byCol byRow
    congr 1
    · rw [H.selW _ _ (by show 16 * x.val + l.val % 16 < 128; omega), H.keyW _ _ (by show 16 * x.val + l.val % 16 < 128; omega),
        if_pos (by rw [hp]; show x.val = (16 * x.val + l.val % 16) / 16; omega),
        if_pos (by show l.val % 16 = (16 * x.val + l.val % 16) % 16; omega), mul_one, mul_one]
      refine Finset.sum_congr rfl fun d _ => ?_
      rw [H.rw _ _ (by show 16 * x.val + l.val % 16 < 128; omega)]
      congr 3
      show (16 * x.val + l.val % 16) % 16 + 15 - (16 * x.val + l.val % 16) / 16 = _
      omega
    · rw [H.selH _ _ (by show 128 ≤ 128 + 16 * y.val + l.val / 16; omega), H.keyH _ _ (by show 128 ≤ 128 + 16 * y.val + l.val / 16; omega),
        if_pos (by rw [hp']; show y.val = (128 + 16 * y.val + l.val / 16) / 16 - 8; omega),
        if_pos (by show l.val / 16 = (128 + 16 * y.val + l.val / 16) % 16; omega), mul_one, mul_one]
      refine Finset.sum_congr rfl fun d _ => ?_
      rw [H.rh _ _ (by show 128 ≤ 128 + 16 * y.val + l.val / 16; omega)]
      congr 3
      show (128 + 16 * y.val + l.val / 16) % 16 + 15 - ((128 + 16 * y.val + l.val / 16) / 16 - 8) = _
      omega
  · intro e
    have := congrArg Fin.val e
    simp only at this
    omega
  · rintro m - ⟨h1, h2⟩
    have h1' : m.val ≠ 16 * x.val + l.val % 16 := fun e => h1 (Fin.ext e)
    have h2' : m.val ≠ 128 + 16 * y.val + l.val / 16 := fun e => h2 (Fin.ext e)
    by_cases hm : m.val < 128
    · rw [H.selW _ _ hm, H.keyW _ _ hm, hp]
      by_cases ha : x.val = m.val / 16
      · rw [if_neg (by omega : ¬ l.val % 16 = m.val % 16), mul_zero]
      · rw [if_neg ha, mul_zero, zero_mul]
    · rw [H.selH _ _ (by omega), H.keyH _ _ (by omega), hp']
      by_cases ha : y.val = m.val / 16 - 8
      · rw [if_neg (by omega : ¬ l.val / 16 = m.val % 16), mul_zero]
      · rw [if_neg ha, mul_zero, zero_mul]
  · exact fun hn => absurd (Finset.mem_univ _) hn
  · exact fun hn => absurd (Finset.mem_univ _) hn

/-- A key's weight is the exponential of its score. -/
theorem Holds.weight (H : Holds A b i x0 x1 x2 x3 x4 x5 x6 x7 x8 x9 x10) (j y x : Fin 8) (h : Fin 4) (l : Fin 256) :
    pexp j (sim j h (k0_pay4 x0 x1 x2) (win j (k0_pay3 x0 x1 x3))) (Tile.rel h (k0_pay4 x0 x1 x2) x6 x7 x8)
        (mask (BitVec.ofNat 32 i.val) j) (ix2 ⟨8 * y.val + x.val, by omega⟩ l)
      = Ideal.exp (score A b i j y x h l) := by
  have hr : (row j y x).val = 64 * ((8 * y.val + x.val) / 8) + 8 * j.val + (8 * y.val + x.val) % 8 := by
    simp only [row]
    omega
  rw [pexp_apply j _ _ _ _ _ (row j y x) hr, sim_apply j h _ _ _ _ (row j y x) hr, H.rel, mask_apply]
  simp only [H.q, H.key]
  congr 1
  unfold score
  by_cases hi : inside i j l
  · rw [if_pos hi, if_pos hi.1, if_pos hi.2, add_zero, add_zero, ← add_assoc]
    rfl
  · rw [if_neg hi]
    unfold inside at hi
    rw [not_and_or] at hi
    rcases hi with hi | hi
    · rw [if_neg hi, EReal.bot_add, EReal.add_bot]
    · rw [if_neg hi, EReal.add_bot, EReal.add_bot]

/-- A head of a block. -/
theorem Holds.head (H : Holds A b i x0 x1 x2 x3 x4 x5 x6 x7 x8 x9 x10) (j y x : Fin 8) (h : Fin 4) (d : Fin 64) :
    Tile.head (BitVec.ofNat 32 i.val) (k0_pay4 x0 x1 x2) (k0_pay3 x0 x1 x3) x6 x7 x8 j h (ix2 ⟨8 * y.val + x.val, by omega⟩ d)
      = attLate A b i j y x h d := by
  unfold Tile.head
  rw [att_apply]
  simp only [H.weight, H.key]
  rfl

/-- What a step computes at block `j`, query `(y, x)` and output channel `o`. -/
theorem Holds.conv (H : Holds A b i x0 x1 x2 x3 x4 x5 x6 x7 x8 x9 x10) (j y x : Fin 8) (o : Fin 1024) :
    conv (BitVec.ofNat 32 (8 * b.val + i.val)) x0 x1 x2 x3 x4 x5 x6 x7 x8 x9 x10
        (ix2 ⟨64 * j.val + (8 * y.val + x.val), by omega⟩ o)
      = Spec.conv A (attLate A b i j y x) o := by
  unfold Tile.conv Spec.conv
  rw [stepWord_eq, proj_apply, H.bc]
  refine congrArg (· + A.bc o) (Finset.sum_congr rfl fun c _ => ?_)
  rw [H.bo, H.wc]
  refine congrArg (· * A.wc o c) (congrArg (· + A.bo c) (Finset.sum_congr rfl fun e _ => ?_))
  obtain ⟨h, d, rfl⟩ : ∃ (h : Fin 4) (d : Fin 64), e = ⟨64 * h.val + d.val, by omega⟩ :=
    ⟨⟨e.val / 64, by omega⟩, ⟨e.val % 64, by omega⟩, Fin.ext (by simp only; omega)⟩
  rw [H.wo, blocks_apply _ j ⟨8 * y.val + x.val, by omega⟩, heads_apply, H.head]
  have e1 : (⟨(64 * h.val + d.val) / 64, by omega⟩ : Fin 4) = h := Fin.ext (by simp only; omega)
  have e2 : (⟨(64 * h.val + d.val) % 64, by omega⟩ : Fin 64) = d := Fin.ext (by simp only; omega)
  rw [e1, e2]

end Cert.KernelIdeal.Tile
-- ==== Proof.KArr.lean ====
module
public import proofs.«01_k».proof.Proof.Step
public import Idealize.ShloMosaic.Lib.Pipeline.ValueKit
@[expose] public section
set_option maxRecDepth 16384
noncomputable section
namespace Cert.KernelIdeal.Tile
open Idealize.ShloMosaic Cert.KernelIdeal.Gen Cert.Spec Idealize.ShloMosaic.Pipeline

/-- The step's block of results in the strip's computed rows. -/
def unstack (c : FVec Ideal S512x1024 .bf16) (y : S1x1x8x64x1024.Idx) : EReal :=
  c (ix2 ⟨64 * ((y 3).val / 8) + (8 * (y 2).val + (y 3).val % 8), by
    have h2 : (y 2).val < 8 := (y 2).isLt
    have h3 : (y 3).val < 64 := (y 3).isLt
    omega⟩ (y 4))

/-- A stored piece holds the block's results at its place. -/
theorem piece_emb (c : FVec Ideal S512x1024 .bf16) (j : Fin 8)
    (inb : ∀ a, (![0, 0, 0, 8 * j.val, 0] : Fin 5 → Nat) a + S1x1x8x8x1024.size a ≤ S1x1x8x64x1024.size a) (x : S1x1x8x8x1024.Idx) :
    piece c j x = unstack c ((Rect.unit (s := S1x1x8x64x1024) ![0, 0, 0, 8 * j.val, 0] S1x1x8x8x1024.size inb).emb x) := by
  have h2 : (x 2).val < 8 := (x 2).isLt
  have h3 : (x 3).val < 8 := (x 3).isLt
  have e2 := ValueKit.rect_emb_unit_val (s := S1x1x8x64x1024) ![0, 0, 0, 8 * j.val, 0] S1x1x8x8x1024.size inb x 2
  have e3 := ValueKit.rect_emb_unit_val (s := S1x1x8x64x1024) ![0, 0, 0, 8 * j.val, 0] S1x1x8x8x1024.size inb x 3
  have e4 := ValueKit.rect_emb_unit_val (s := S1x1x8x64x1024) ![0, 0, 0, 8 * j.val, 0] S1x1x8x8x1024.size inb x 4
  have hx : x = ix5 (x 0) (x 1) (x 2) (x 3) (x 4) := by
    funext a
    fin_cases a <;> rfl
  refine ((congrArg (piece c j) hx).trans (piece_apply c j (x 0) (x 1) (x 2) (x 3) (x 4))).trans ?_
  unfold unstack
  congr 1
  funext a
  match a with
  | ⟨0, _⟩ =>
    refine Fin.ext ?_
    show 64 * j.val + (8 * (x 2).val + (x 3).val) = 64 * (_ / 8) + (8 * _ + _ % 8)
    rw [e2, e3]
    show _ = 64 * ((8 * j.val + (x 3).val) / 8) + (8 * (0 + (x 2).val) + (8 * j.val + (x 3).val) % 8)
    omega
  | ⟨1, _⟩ =>
    refine Fin.ext ?_
    refine Eq.trans ?_ e4.symm
    show (x 4).val = 0 + (x 4).val
    omega

/-- What a step leaves in its block of results. -/
theorem out_apply (i : grid0.Coords) (x0 x1 : Vec Ideal S1x8x80x256 .bf16) (x2 : Vec Ideal S256x256 .bf16) (x3 : Vec Ideal S256x512 .bf16)
    (x4 : Vec Ideal S256x256 .bf16) (x5 : Vec Ideal S1x256 .f32) (x6 : Vec Ideal S64x256 .bf16) (x7 : Vec Ideal S512x256 .bf16)
    (x8 : Vec Ideal S256x256 .bf16) (x9 : Vec Ideal S256x1024 .bf16) (x10 : Vec Ideal S1x1024 .f32) (y : S1x1x8x64x1024.Idx) :
    out0_11 i x0 x1 x2 x3 x4 x5 x6 x7 x8 x9 x10 y
      = unstack (conv (BitVec.ofNat 32 (i 0).val) x0 x1 x2 x3 x4 x5 x6 x7 x8 x9 x10) y := by
  have hc : k0_pay301 i x0 x1 x2 x3 x4 x5 x6 x7 x8 x9 x10
      = conv (BitVec.ofNat 32 (i 0).val) x0 x1 x2 x3 x4 x5 x6 x7 x8 x9 x10 := by
    rw [conv_eq]
    have z4 : (![0, 0, 0, 0] : Fin 4 → Nat) = fun _ => 0 := by funext a; fin_cases a <;> rfl
    have z2 : (![0, 0] : Fin 2 → Nat) = fun _ => 0 := by funext a; fin_cases a <;> rfl
    rw [View.ld_unit_zero z4, View.ld_unit_zero z4, View.ld_unit_zero z2, View.ld_unit_zero z2, View.ld_unit_zero z2,
      View.ld_unit_zero z2, View.ld_unit_zero z2, View.ld_unit_zero z2, View.ld_unit_zero z2, View.ld_unit_zero z2,
      View.ld_unit_zero z2]
  rw [← hc]
  refine View.canon_apply_of_pieces _ _ (fun p hp x => ?_) y (cover0_11 _ _ _ _ _ _ _ _ y)
  simp only [List.mem_cons, List.mem_nil_iff, or_false] at hp
  rcases hp with rfl | rfl | rfl | rfl | rfl | rfl | rfl | rfl
  · exact piece_emb (k0_pay301 i x0 x1 x2 x3 x4 x5 x6 x7 x8 x9 x10) 7 (by decide) x
  · exact piece_emb (k0_pay301 i x0 x1 x2 x3 x4 x5 x6 x7 x8 x9 x10) 6 (by decide) x
  · exact piece_emb (k0_pay301 i x0 x1 x2 x3 x4 x5 x6 x7 x8 x9 x10) 5 (by decide) x
  · exact piece_emb (k0_pay301 i x0 x1 x2 x3 x4 x5 x6 x7 x8 x9 x10) 4 (by decide) x
  · exact piece_emb (k0_pay301 i x0 x1 x2 x3 x4 x5 x6 x7 x8 x9 x10) 3 (by decide) x
  · exact piece_emb (k0_pay301 i x0 x1 x2 x3 x4 x5 x6 x7 x8 x9 x10) 2 (by decide) x
  · exact piece_emb (k0_pay301 i x0 x1 x2 x3 x4 x5 x6 x7 x8 x9 x10) 1 (by decide) x
  · exact piece_emb (k0_pay301 i x0 x1 x2 x3 x4 x5 x6 x7 x8 x9 x10) 0 (by decide) x

/-- The upper strip of step `t`: batch `t / 8`, row block `t % 8`. -/
theorem idx0 : ∀ t : Fin cfg0.N, win0_0.index t = ![t.val / 8, t.val % 8, 0, 0] := (by decide +kernel : ∀ t : Fin grid0.N, _)
/-- The lower strip of step `t`: the row block below. -/
theorem idx1 : ∀ t : Fin cfg0.N, win0_1.index t = ![t.val / 8, t.val % 8 + 1, 0, 0] := (by decide +kernel : ∀ t : Fin grid0.N, _)
/-- The result of step `t`: batch `t / 8`, row block `t % 8`. -/
theorem idx11 : ∀ t : Fin cfg0.N, win0_11.index t = ![t.val / 8, t.val % 8, 0, 0, 0] := (by decide +kernel : ∀ t : Fin grid0.N, _)

/-- The step's coordinate is the step. -/
theorem coord : ∀ t : Fin cfg0.N, (grid0.coords t 0).val = t.val := (by decide +kernel : ∀ t : Fin grid0.N, _)

variable (m : (ℓ : Loc nD τ sig) → Buf (Elt Ideal) ℓ)

/-- The result array the kernel writes, by coordinates. -/
def result (A : Args) (k : S8x8x8x64x1024.Idx) : EReal :=
  Spec.conv A (attLate A (k 0) (k 1) ⟨(k 3).val / 8, by have h : (k 3).val < 64 := (k 3).isLt; omega⟩ (k 2)
    ⟨(k 3).val % 8, by omega⟩) (k 4)

/-- The kernel's array after its last step, where every step's blocks hold the arguments. -/
theorem arr_eq (c : Dev nD) (A : Args) (H : ∀ (b i : Fin 8) (t : Fin cfg0.N), t.val = 8 * b.val + i.val →
    Holds A b i (iblk m c 0 t) (iblk m c 1 t) (iblk m c 2 t) (iblk m c 3 t) (iblk m c 4 t) (iblk m c 5 t) (iblk m c 6 t) (iblk m c 7 t)
      (iblk m c 8 t) (iblk m c 9 t) (iblk m c 10 t)) :
    (dats m 0 c).arrAt 11 cfg0.N = result A := by
  refine (dats m 0 c).arrAt_eq_of_covers 11 _ (by decide +kernel) fun t hf y => ?_
  blk_simp
  rw [after0_11]
  have ht : t.val < 64 := t.isLt
  have H' := H ⟨t.val / 8, by omega⟩ ⟨t.val % 8, by omega⟩ t (by simp only; omega)
  have hw : (grid0.coords t 0).val = 8 * (⟨t.val / 8, by omega⟩ : Fin 8).val + (⟨t.val % 8, by omega⟩ : Fin 8).val := by
    rw [coord]
    simp only
    omega
  have q : (win0_11.blk t).view.emb y
      = (ix5 ⟨t.val / 8, by omega⟩ ⟨t.val % 8, by omega⟩ (y 2) (y 3) (y 4) : S8x8x8x64x1024.Idx) := by
    blk_ext [idx11 t]
  have h3 : (y 3).val < 64 := (y 3).isLt
  refine (out_apply _ _ _ _ _ _ _ _ _ _ _ _ y).trans ?_
  rw [hw, q]
  exact H'.conv ⟨(y 3).val / 8, by omega⟩ (y 2) ⟨(y 3).val % 8, by omega⟩ (y 4)

end Cert.KernelIdeal.Tile
-- ==== Proof.Pre.lean ====
module
public import proofs.«01_k».proof.Proof.KArr
public import proofs.«01_k».proof.Proof.Gather
public import Idealize.ShloMosaic.Lib.StableHlo.RunRead
@[expose] public section
set_option maxRecDepth 16384
noncomputable section
namespace Cert.KernelIdeal.Tile
open Idealize.ShloMosaic Cert.KernelIdeal.Gen Cert.Spec Idealize.ShloMosaic.Pipeline
variable (m : (ℓ : Loc nD τ sig) → Buf (Elt Ideal) ℓ)

/-! What the host leaves in each array the kernel call reads, at an index. -/

/-- The nine arguments as memory holds them. -/
def args (c : Dev nD) : Args where
  x b k r s := m (c, Proc.tc.devRef main_arg0) (ix4 b k r s)
  wq e k := m (c, Proc.tc.devRef main_arg1) (ix2 e k)
  wkv e k := m (c, Proc.tc.devRef main_arg2) (ix2 e k)
  wo e k := m (c, Proc.tc.devRef main_arg3) (ix2 e k)
  bo e := m (c, Proc.tc.devRef main_arg4) (ix1 e)
  rh n d := m (c, Proc.tc.devRef main_arg5) (ix2 n d)
  rw n d := m (c, Proc.tc.devRef main_arg6) (ix2 n d)
  wc o k := m (c, Proc.tc.devRef main_arg7) (ix2 o k)
  bc o := m (c, Proc.tc.devRef main_arg8) (ix1 o)

/-- A joining of two arrays along an axis, each replaced by an equal one. -/
theorem concat_congr {α : Type} {S₁ S₂ S : Shape} {ax : Fin S.rank} {a a' : S₁.Idx → α} {b b' : S₂.Idx → α}
    {h : Shape.Concatenates [S₁, S₂] S ax} (ha : a = a') (hb : b = b') :
    concatenate S ax [⟨S₁, a⟩, ⟨S₂, b⟩] h = concatenate S ax [⟨S₁, a'⟩, ⟨S₂, b'⟩] h := by
  subst ha hb; rfl

/-- The word zero as a number. -/
theorem sitofp_nil : (FloatOps.sitofp FTy.f32 (0#32) : Ideal .f32) = (0 : EReal) := by
  show ((((0#32 : BitVec 32).toInt : ℝ)) : EReal) = 0
  simp

/-- The padded picture, channels last. -/
theorem v2_at (c : Dev nD) (b : Fin 8) (r : Fin 72) (s : Fin 80) (k : Fin 256) :
    V m c main_v2 (ix4 b r s k) = xp (args m c) b r.val s.val k := by
  unfold_abbrev_sides
  after_reads_simp
  dsimp only [StableHlo.TRef.ofBuf, StableHlo.TRef.toBuf, StableHlo.TRef.of]
  simp only [cast_eq]
  pointwise
  unfold xp
  split_ifs with h₁ h₂ h₂
  · rfl
  · exact absurd h₁ (by omega)
  · exact absurd h₂ (by omega)
  · exact sitofp_nil

/-- The query weights, transposed. -/
theorem v69_at (c : Dev nD) (k e : Fin 256) : V m c main_v69 (ix2 k e) = (args m c).wq e k := by
  unfold_abbrev_sides
  after_reads_simp
  pointwise

/-- The key and value weights, transposed. -/
theorem v71_at (c : Dev nD) (k : Fin 256) (e : Fin 512) : V m c main_v71 (ix2 k e) = (args m c).wkv e k := by
  unfold_abbrev_sides
  after_reads_simp
  pointwise

/-- The output projection, transposed. -/
theorem v73_at (c : Dev nD) (e k : Fin 256) : V m c main_v73 (ix2 e k) = (args m c).wo k e := by
  unfold_abbrev_sides
  after_reads_simp
  pointwise

/-- The output projection's bias as a row. -/
theorem v74_at (c : Dev nD) (k : Fin 256) : V m c main_v74 (ix2 0 k) = (args m c).bo k := by
  unfold_abbrev_sides
  after_reads_simp
  pointwise

/-- The convolution's weights, transposed. -/
theorem v76_at (c : Dev nD) (k : Fin 256) (o : Fin 1024) : V m c main_v76 (ix2 k o) = (args m c).wc o k := by
  unfold_abbrev_sides
  after_reads_simp
  pointwise

/-- The convolution's bias as a row. -/
theorem v77_at (c : Dev nD) (o : Fin 1024) : V m c main_v77 (ix2 0 o) = (args m c).bc o := by
  unfold_abbrev_sides
  after_reads_simp
  pointwise

/-- The columns' position table, by the query's column and the key's. -/
theorem v20_at (c : Dev nD) (d : Fin 64) (n : Fin 128) :
    V m c main_v20 (ix2 d n) = (args m c).rw ⟨n.val % 16 + 15 - n.val / 16, by omega⟩ d := by
  unfold_abbrev_sides
  after_reads_simp
  pointwise
  refine Gather.rows_apply (by decide) _ _ _ _ _ _ ⟨n.val % 16 + 15 - n.val / 16, by omega⟩ ?_
  pointwise
  revert n
  decide +kernel

/-- The rows' position table, by the query's row and the key's. -/
theorem v29_at (c : Dev nD) (d : Fin 64) (n : Fin 128) :
    V m c main_v29 (ix2 d n) = (args m c).rh ⟨n.val % 16 + 15 - n.val / 16, by omega⟩ d := by
  unfold_abbrev_sides
  after_reads_simp
  pointwise
  refine Gather.rows_apply (by decide) _ _ _ _ _ _ ⟨n.val % 16 + 15 - n.val / 16, by omega⟩ ?_
  pointwise
  revert n
  decide +kernel

/-- The two position tables side by side. -/
theorem v31_at (c : Dev nD) (d : Fin 64) (n : Fin 256) :
    V m c main_v31 (ix2 d n) = if h : n.val < 128 then V m c main_v20 (ix2 d ⟨n.val, h⟩)
      else V m c main_v29 (ix2 d ⟨n.val - 128, by omega⟩) := by
  have h : V m c main_v31 = (truncf FTy.bf16 (concatenate S64x256 1 [⟨S64x128, V m c main_v20⟩, ⟨S64x128, V m c main_v29⟩]
      concatenates_S64x128_S64x128_S64x256_d1) bitsLt_bf16_f32 : FVec Ideal S64x256 .bf16) := by
    unfold_abbrev_sides
    after_reads_simp
    exact congrArg (truncf FTy.bf16 · bitsLt_bf16_f32) (concat_congr (by after_reads_simp) (by after_reads_simp))
  rw [h]
  pointwise

/-- A pixel's column in its block. -/
theorem v36_at (c : Dev nD) (p : Fin 512) : V m c main_v36 (ix2 p 0) = BitVec.ofNat 32 (p.val % 8) := by
  unfold_abbrev_sides
  after_reads_simp
  dsimp only [StableHlo.TRef.ofBuf, StableHlo.TRef.toBuf, StableHlo.TRef.of]
  simp only [cast_eq]
  pointwise
  revert p
  decide +kernel

/-- A pixel's row in its block. -/
theorem v42_at (c : Dev nD) (p : Fin 512) : V m c main_v42 (ix2 p 0) = BitVec.ofNat 32 (p.val / 64) := by
  unfold_abbrev_sides
  after_reads_simp
  dsimp only [StableHlo.TRef.ofBuf, StableHlo.TRef.toBuf, StableHlo.TRef.of]
  simp only [cast_eq]
  pointwise
  revert p
  decide +kernel

/-- A table column's query coordinate. -/
theorem v34_at (c : Dev nD) (p : Fin 128) : V m c main_v34 (ix1 p) = BitVec.ofNat 32 (p.val / 16) := by
  unfold_abbrev_sides
  after_reads_simp
  dsimp only [StableHlo.TRef.ofBuf, StableHlo.TRef.toBuf, StableHlo.TRef.of]
  simp only [cast_eq]
  pointwise
  revert p
  decide +kernel

/-- A key's column in its window. -/
theorem v51_at (c : Dev nD) (l : Fin 256) : V m c main_v51 (ix2 0 l) = BitVec.ofNat 32 (l.val % 16) := by
  unfold_abbrev_sides
  after_reads_simp
  dsimp only [StableHlo.TRef.ofBuf, StableHlo.TRef.toBuf, StableHlo.TRef.of]
  simp only [cast_eq]
  pointwise
  revert l
  decide +kernel

/-- A key's row in its window. -/
theorem v59_at (c : Dev nD) (l : Fin 256) : V m c main_v59 (ix2 0 l) = BitVec.ofNat 32 (l.val / 16) := by
  unfold_abbrev_sides
  after_reads_simp
  dsimp only [StableHlo.TRef.ofBuf, StableHlo.TRef.toBuf, StableHlo.TRef.of]
  simp only [cast_eq]
  pointwise
  revert l
  decide +kernel

/-- A table column's key coordinate. -/
theorem v53_at (c : Dev nD) (p : Fin 128) : V m c main_v53 (ix1 p) = BitVec.ofNat 32 (p.val % 16) := by
  unfold_abbrev_sides
  after_reads_simp
  dsimp only [StableHlo.TRef.ofBuf, StableHlo.TRef.toBuf, StableHlo.TRef.of]
  simp only [cast_eq]
  pointwise
  revert p
  decide +kernel

/-- A table column's key coordinate, in the rows' table. -/
theorem v61_at (c : Dev nD) (p : Fin 128) : V m c main_v61 (ix1 p) = BitVec.ofNat 32 (p.val % 16) := by
  unfold_abbrev_sides
  after_reads_simp
  dsimp only [StableHlo.TRef.ofBuf, StableHlo.TRef.toBuf, StableHlo.TRef.of]
  simp only [cast_eq]
  pointwise
  revert p
  decide +kernel

/-- Small words are equal when their numbers are. -/
theorem cmp_words (a b : Nat) (ha : a < 512) (hb : b < 512) :
    IntOp.cmpi .eq (BitVec.ofNat 32 a) (BitVec.ofNat 32 b) = if a = b then 1#1 else 0#1 := by
  have e : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases h : a = b
  · subst h; simp [IntOp.cmpi]
  · rw [if_neg h, IntOp.cmpi]
    exact congrArg BitVec.ofBool (beq_false_of_ne (mt e.mp h))

/-- A set bit is one. -/
theorem bit_one : (FloatOps.uitofp FTy.bf16 (1#1) : Ideal .bf16) = (1 : EReal) := by
  show ((((1#1 : BitVec 1).toNat : ℝ)) : EReal) = 1
  simp

/-- A clear bit is zero. -/
theorem bit_zero : (FloatOps.uitofp FTy.bf16 (0#1) : Ideal .bf16) = (0 : EReal) := by
  show ((((0#1 : BitVec 1).toNat : ℝ)) : EReal) = 0
  simp

/-- A bit as a number. -/
theorem bit_float (p : Prop) [Decidable p] :
    (FloatOps.uitofp FTy.bf16 (if p then 1#1 else 0#1) : Ideal .bf16) = if p then (1 : EReal) else 0 := by
  split
  · exact bit_one
  · exact bit_zero

/-- Whether a pixel's column is a table column's query coordinate. -/
theorem v40_at (c : Dev nD) (p : Fin 512) (n : Fin 128) : V m c main_v40 (ix2 p n) = if p.val % 8 = n.val / 16 then 1#1 else 0#1 := by
  have h : V m c main_v40 = cmpi .eq (broadcastInDim S512x128 ![0, 1] bcast_S512x1_S512x128_0_1 (V m c main_v36))
      (broadcastInDim S512x128 ![0, 1] bcast_S1x128_S512x128_0_1 (broadcastInDim S1x128 ![1] bcast_S128_S1x128_1 (V m c main_v34))) := by
    unfold_abbrev_sides
    after_reads_simp
  rw [h]
  pointwise
  rw [v36_at, v34_at, cmp_words _ _ (by omega) (by omega)]

/-- Whether a pixel's row is a table column's query coordinate. -/
theorem v46_at (c : Dev nD) (p : Fin 512) (n : Fin 128) : V m c main_v46 (ix2 p n) = if p.val / 64 = n.val / 16 then 1#1 else 0#1 := by
  have h : V m c main_v46 = cmpi .eq (broadcastInDim S512x128 ![0, 1] bcast_S512x1_S512x128_0_1 (V m c main_v42))
      (broadcastInDim S512x128 ![0, 1] bcast_S1x128_S512x128_0_1 (broadcastInDim S1x128 ![1] bcast_S128_S1x128_1 (V m c main_v34))) := by
    unfold_abbrev_sides
    after_reads_simp
  rw [h]
  pointwise
  rw [v42_at, v34_at, cmp_words _ _ (by omega) (by omega)]

/-- Whether a key's column is a table column's key coordinate. -/
theorem v57_at (c : Dev nD) (n : Fin 128) (l : Fin 256) : V m c main_v57 (ix2 n l) = if l.val % 16 = n.val % 16 then 1#1 else 0#1 := by
  have h : V m c main_v57 = cmpi .eq (broadcastInDim S128x256 ![0, 1] bcast_S1x256_S128x256_0_1 (V m c main_v51))
      (broadcastInDim S128x256 ![0, 1] bcast_S128x1_S128x256_0_1 (broadcastInDim S128x1 ![0] bcast_S128_S128x1_0 (V m c main_v53))) := by
    unfold_abbrev_sides
    after_reads_simp
  rw [h]
  pointwise
  rw [v51_at, v53_at, cmp_words _ _ (by omega) (by omega)]

/-- Whether a key's row is a table column's key coordinate. -/
theorem v65_at (c : Dev nD) (n : Fin 128) (l : Fin 256) : V m c main_v65 (ix2 n l) = if l.val / 16 = n.val % 16 then 1#1 else 0#1 := by
  have h : V m c main_v65 = cmpi .eq (broadcastInDim S128x256 ![0, 1] bcast_S1x256_S128x256_0_1 (V m c main_v59))
      (broadcastInDim S128x256 ![0, 1] bcast_S128x1_S128x256_0_1 (broadcastInDim S128x1 ![0] bcast_S128_S128x1_0 (V m c main_v61))) := by
    unfold_abbrev_sides
    after_reads_simp
  rw [h]
  pointwise
  rw [v59_at, v61_at, cmp_words _ _ (by omega) (by omega)]

/-- The queries' selector. -/
theorem v48_at (c : Dev nD) (p : Fin 512) (n : Fin 256) :
    V m c main_v48 (ix2 p n) = if n.val < 128 then (if p.val % 8 = n.val / 16 then (1 : EReal) else 0)
      else if p.val / 64 = n.val / 16 - 8 then 1 else 0 := by
  have h : V m c main_v48 = (uitofp FTy.bf16 (concatenate S512x256 1 [⟨S512x128, V m c main_v40⟩, ⟨S512x128, V m c main_v46⟩]
      concatenates_S512x128_S512x128_S512x256_d1) : FVec Ideal S512x256 .bf16) := by
    unfold_abbrev_sides
    after_reads_simp
    exact congrArg (uitofp FTy.bf16) (concat_congr (by after_reads_simp) (by after_reads_simp))
  rw [h]
  pointwise
  split
  · rw [v40_at, bit_float]
  · rw [v46_at, bit_float, show (n.val - 128) / 16 = n.val / 16 - 8 by omega]

/-- The keys' selector. -/
theorem v67_at (c : Dev nD) (n l : Fin 256) :
    V m c main_v67 (ix2 n l) = if n.val < 128 then (if l.val % 16 = n.val % 16 then (1 : EReal) else 0)
      else if l.val / 16 = n.val % 16 then 1 else 0 := by
  have h : V m c main_v67 = (uitofp FTy.bf16 (concatenate S256x256 0 [⟨S128x256, V m c main_v57⟩, ⟨S128x256, V m c main_v65⟩]
      concatenates_S128x256_S128x256_S256x256_d0) : FVec Ideal S256x256 .bf16) := by
    unfold_abbrev_sides
    after_reads_simp
    exact congrArg (uitofp FTy.bf16) (concat_congr (by after_reads_simp) (by after_reads_simp))
  rw [h]
  pointwise
  split
  · rw [v57_at, bit_float]
  · rw [v65_at, bit_float, show (n.val - 128) % 16 = n.val % 16 by omega]

end Cert.KernelIdeal.Tile
-- ==== Proof.HoldsAt.lean ====
module
public import proofs.«01_k».proof.Proof.Pre
@[expose] public section
set_option maxRecDepth 16384
noncomputable section
namespace Cert.KernelIdeal.Tile
open Idealize.ShloMosaic Cert.KernelIdeal.Gen Cert.Spec Idealize.ShloMosaic.Pipeline
variable (m : (ℓ : Loc nD τ sig) → Buf (Elt Ideal) ℓ)

/-! The blocks of a step, in the arguments' terms. -/

/-- The query weights are read whole at every step. -/
theorem idx2 : ∀ t : Fin cfg0.N, win0_2.index t = ![0, 0] := (by decide +kernel : ∀ t : Fin grid0.N, _)
/-- The key and value weights are read whole at every step. -/
theorem idx3 : ∀ t : Fin cfg0.N, win0_3.index t = ![0, 0] := (by decide +kernel : ∀ t : Fin grid0.N, _)
/-- The output projection is read whole at every step. -/
theorem idx4 : ∀ t : Fin cfg0.N, win0_4.index t = ![0, 0] := (by decide +kernel : ∀ t : Fin grid0.N, _)
/-- The output projection's bias is read whole at every step. -/
theorem idx5 : ∀ t : Fin cfg0.N, win0_5.index t = ![0, 0] := (by decide +kernel : ∀ t : Fin grid0.N, _)
/-- The position tables are read whole at every step. -/
theorem idx6 : ∀ t : Fin cfg0.N, win0_6.index t = ![0, 0] := (by decide +kernel : ∀ t : Fin grid0.N, _)
/-- The queries' selector is read whole at every step. -/
theorem idx7 : ∀ t : Fin cfg0.N, win0_7.index t = ![0, 0] := (by decide +kernel : ∀ t : Fin grid0.N, _)
/-- The keys' selector is read whole at every step. -/
theorem idx8 : ∀ t : Fin cfg0.N, win0_8.index t = ![0, 0] := (by decide +kernel : ∀ t : Fin grid0.N, _)
/-- The convolution's weights are read whole at every step. -/
theorem idx9 : ∀ t : Fin cfg0.N, win0_9.index t = ![0, 0] := (by decide +kernel : ∀ t : Fin grid0.N, _)
/-- The convolution's bias is read whole at every step. -/
theorem idx10 : ∀ t : Fin cfg0.N, win0_10.index t = ![0, 0] := (by decide +kernel : ∀ t : Fin grid0.N, _)

/-- The upper strip of a step: eight rows from row `8i` of the padded picture. -/
theorem blk0_at (c : Dev nD) (t : Fin cfg0.N) (b i : Fin 8) (h : t.val = 8 * b.val + i.val) (r : Fin 8) (s : Fin 80) (k : Fin 256) :
    iblk m c 0 t (ix4 0 r s k) = V m c main_v2 (ix4 b ⟨8 * i.val + r.val, by omega⟩ s k) := by
  blk_simp [iblk]
  congr 1
  blk_ext [idx0 t]

/-- The lower strip of a step: the next eight rows. -/
theorem blk1_at (c : Dev nD) (t : Fin cfg0.N) (b i : Fin 8) (h : t.val = 8 * b.val + i.val) (r : Fin 8) (s : Fin 80) (k : Fin 256) :
    iblk m c 1 t (ix4 0 r s k) = V m c main_v2 (ix4 b ⟨8 * i.val + 8 + r.val, by omega⟩ s k) := by
  blk_simp [iblk]
  congr 1
  blk_ext [idx1 t]

/-- The block of the query weights is the whole array. -/
theorem blk2_at (c : Dev nD) (t : Fin cfg0.N) (p : Fin 256) (n : Fin 256) : iblk m c 2 t (ix2 p n) = V m c main_v69 (ix2 p n) := by
  blk_simp [iblk]
  congr 1
  blk_ext [idx2 t]

/-- The block of the key and value weights is the whole array. -/
theorem blk3_at (c : Dev nD) (t : Fin cfg0.N) (p : Fin 256) (n : Fin 512) : iblk m c 3 t (ix2 p n) = V m c main_v71 (ix2 p n) := by
  blk_simp [iblk]
  congr 1
  blk_ext [idx3 t]

/-- The block of the output projection is the whole array. -/
theorem blk4_at (c : Dev nD) (t : Fin cfg0.N) (p : Fin 256) (n : Fin 256) : iblk m c 4 t (ix2 p n) = V m c main_v73 (ix2 p n) := by
  blk_simp [iblk]
  congr 1
  blk_ext [idx4 t]

/-- The block of the projection's bias is the whole array. -/
theorem blk5_at (c : Dev nD) (t : Fin cfg0.N) (p : Fin 1) (n : Fin 256) : iblk m c 5 t (ix2 p n) = V m c main_v74 (ix2 p n) := by
  blk_simp [iblk]
  congr 1
  blk_ext [idx5 t]

/-- The block of the position tables is the whole array. -/
theorem blk6_at (c : Dev nD) (t : Fin cfg0.N) (p : Fin 64) (n : Fin 256) : iblk m c 6 t (ix2 p n) = V m c main_v31 (ix2 p n) := by
  blk_simp [iblk]
  congr 1
  blk_ext [idx6 t]

/-- The block of the queries' selector is the whole array. -/
theorem blk7_at (c : Dev nD) (t : Fin cfg0.N) (p : Fin 512) (n : Fin 256) : iblk m c 7 t (ix2 p n) = V m c main_v48 (ix2 p n) := by
  blk_simp [iblk]
  congr 1
  blk_ext [idx7 t]

/-- The block of the keys' selector is the whole array. -/
theorem blk8_at (c : Dev nD) (t : Fin cfg0.N) (p : Fin 256) (n : Fin 256) : iblk m c 8 t (ix2 p n) = V m c main_v67 (ix2 p n) := by
  blk_simp [iblk]
  congr 1
  blk_ext [idx8 t]

/-- The block of the convolution's weights is the whole array. -/
theorem blk9_at (c : Dev nD) (t : Fin cfg0.N) (p : Fin 256) (n : Fin 1024) : iblk m c 9 t (ix2 p n) = V m c main_v76 (ix2 p n) := by
  blk_simp [iblk]
  congr 1
  blk_ext [idx9 t]

/-- The block of the convolution's bias is the whole array. -/
theorem blk10_at (c : Dev nD) (t : Fin cfg0.N) (p : Fin 1) (n : Fin 1024) : iblk m c 10 t (ix2 p n) = V m c main_v77 (ix2 p n) := by
  blk_simp [iblk]
  congr 1
  blk_ext [idx10 t]

/-- The blocks of step `8b + i` hold the arguments. -/
theorem holds (c : Dev nD) (b i : Fin 8) (t : Fin cfg0.N) (h : t.val = 8 * b.val + i.val) :
    Holds (args m c) b i (iblk m c 0 t) (iblk m c 1 t) (iblk m c 2 t) (iblk m c 3 t) (iblk m c 4 t) (iblk m c 5 t) (iblk m c 6 t)
      (iblk m c 7 t) (iblk m c 8 t) (iblk m c 9 t) (iblk m c 10 t) where
  x r s k := by
    unfold strip
    split
    · exact (blk0_at m c t b i h _ s k).trans (v2_at m c b _ s k)
    · refine (blk1_at m c t b i h _ s k).trans ((v2_at m c b _ s k).trans ?_)
      congr 1
      simp only
      omega
  wq k e := (blk2_at m c t k e).trans (v69_at m c k e)
  wkv k e := (blk3_at m c t k e).trans (v71_at m c k e)
  wo e k := (blk4_at m c t e k).trans (v73_at m c e k)
  bo k := (blk5_at m c t 0 k).trans (v74_at m c k)
  rw d n hn := by
    refine (blk6_at m c t d n).trans ((v31_at m c d n).trans ?_)
    rw [dif_pos hn]
    exact v20_at m c d ⟨n.val, hn⟩
  rh d n hn := by
    refine (blk6_at m c t d n).trans ((v31_at m c d n).trans ?_)
    rw [dif_neg (by omega)]
    refine (v29_at m c d ⟨n.val - 128, by omega⟩).trans ?_
    congr 2
    simp only
    omega
  selW p n hn := by
    refine (blk7_at m c t p n).trans ((v48_at m c p n).trans ?_)
    rw [if_pos hn]
  selH p n hn := by
    refine (blk7_at m c t p n).trans ((v48_at m c p n).trans ?_)
    rw [if_neg (by omega)]
  keyW n l hn := by
    refine (blk8_at m c t n l).trans ((v67_at m c n l).trans ?_)
    rw [if_pos hn]
  keyH n l hn := by
    refine (blk8_at m c t n l).trans ((v67_at m c n l).trans ?_)
    rw [if_neg (by omega)]
  wc k o := (blk9_at m c t k o).trans (v76_at m c k o)
  bc o := (blk10_at m c t 0 o).trans (v77_at m c o)

/-- The kernel's array after its last step. -/
theorem arr_result (c : Dev nD) : (dats m 0 c).arrAt 11 cfg0.N = result (args m c) :=
  arr_eq m c (args m c) fun b i t h => holds m c b i t h

end Cert.KernelIdeal.Tile
-- ==== Proof.Post.lean ====
module
public import proofs.«01_k».proof.Proof.HoldsAt
@[expose] public section
set_option maxRecDepth 16384
noncomputable section
namespace Cert.KernelIdeal.Tile
open Idealize.ShloMosaic Cert.KernelIdeal.Gen Cert.Spec Idealize.ShloMosaic.Pipeline
variable (m : (ℓ : Loc nD τ sig) → Buf (Elt Ideal) ℓ)

/-- What the host leaves in the result: the picture of the rows attended without a running maximum. -/
theorem tail_at (c : Dev nD) (b : Fin 8) (ch : Fin 256) (Y X : Fin 128) :
    afterTail₀ cfgs (dats m) 0 (V0 m) [hostOps1] c main_v82 (ix4 b ch Y X)
      = picture (args m c) (attLate (args m c)) b ch Y X := by
  have hA : withArrays (cfgs 0).spec c (V0 m c) (fun w => (dats m 0 c).arrAt w (cfgs 0).N) (Proc.tc.devRef main_v78) = result (args m c) :=
    ((dats m 0 c).withArrays_arrAt sharedIn0 (V0 m c) (A_eq m c) 11).trans (arr_result m c)
  unfold afterTail₀
  simp only [hostOps1, List.flatten_cons, List.flatten_nil, List.append_nil]
  after_reads_simp
  rw [hA]
  pointwise
  unfold result picture
  simp only [ix5_0, ix5_1, ix5_2, ix5_3, ix5_4]
  congr 1
  · congr 1 <;> apply Fin.ext <;> simp only <;> omega
  · apply Fin.ext
    simp only
    omega
end Cert.KernelIdeal.Tile
-- ==== Proof.Equal.lean ====
module
public import proofs.«01_k».proof.Proof.Post
public import proofs.«01_k».proof.Proof.RefRead
public import proofs.«01_k».proof.Proof.Gen.ReferenceIdeal.Run
@[expose] public section
set_option maxRecDepth 16384
noncomputable section
namespace Cert.Equal
open Idealize.ShloMosaic Cert.Spec Idealize.ShloMosaic.Pipeline
open Cert.KernelIdeal (cfgs)
open Cert.KernelIdeal.Gen

/-! The two results are one array. -/

variable (m : (ℓ : Loc Cert.KernelIdeal.nD Cert.KernelIdeal.τ Cert.KernelIdeal.sig) → Buf (Elt Ideal) ℓ)

/-- The array the kernel's program leaves as its result. -/
def kres (c : Dev Cert.KernelIdeal.nD) : FVec Ideal Cert.KernelIdeal.S8x256x128x128 .f32 :=
  afterTail₀ cfgs (dats m) 0 (V0 m) [hostOps1] c Cert.KernelIdeal.main_v82

/-- For arguments that are real numbers the kernel's result is the reference's. -/
theorem kres_eq (c : Dev Cert.KernelIdeal.nD) (x0 : FVec Ideal Cert.ReferenceIdeal.S8x256x64x64 .f32)
    (x1 : FVec Ideal Cert.ReferenceIdeal.S256x256 .f32) (x2 : FVec Ideal Cert.ReferenceIdeal.S512x256 .f32)
    (x3 : FVec Ideal Cert.ReferenceIdeal.S256x256 .f32) (x4 : FVec Ideal Cert.ReferenceIdeal.S256 .f32)
    (x5 x6 : FVec Ideal Cert.ReferenceIdeal.S31x64 .f32) (x7 : FVec Ideal Cert.ReferenceIdeal.S1024x256 .f32)
    (x8 : FVec Ideal Cert.ReferenceIdeal.S1024 .f32)
    (hx : Cert.KernelIdeal.Tile.args m c = Cert.ReferenceIdeal.Plain.args x0 x1 x2 x3 x4 x5 x6 x7 x8)
    (hf : Finite (Cert.ReferenceIdeal.Plain.args x0 x1 x2 x3 x4 x5 x6 x7 x8)) :
    Cert.ReferenceIdeal.Read.val_main_v140 (F := Ideal) x0 x1 x2 x3 x4 x5 x6 x7 x8 = kres m c := by
  refine funext fun j => ?_
  obtain ⟨b, ch, Y, X, rfl⟩ : ∃ b ch Y X, j = ix4 b ch Y X :=
    ⟨j 0, j 1, j 2, j 3, (eq_ix4 j)⟩
  rw [Cert.ReferenceIdeal.Plain.v140_at]
  refine Eq.trans ?_ (Cert.KernelIdeal.Tile.tail_at m c b ch Y X).symm
  rw [hx]
  unfold picture
  exact congrFun (congrArg (conv _) (funext fun h => funext fun d => (hf.att _ _ _ _ _ h d).symm)) _

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Reals
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.SL.Sem

/-- The frame of the kernel on bit patterns: it terminates, keeps its arguments and ends with its counters at zero. -/
theorem frame_p : Cert.quiescent_Kernel (hKernel := Cert.Kernel.Gen.facts) :=
  fun m ρ _ => Cert.Kernel.Gen.frame m ρ

/-- The frame of the idealized kernel. -/
theorem frame_pi : Cert.quiescent_KernelIdeal (hKernelIdeal := Cert.KernelIdeal.Gen.facts) :=
  fun m ρ _ => Cert.KernelIdeal.Gen.frame m ρ

/-- The frame of the reference: its run keeps the arguments, and it declares no semaphore. -/
theorem frame_ri : Cert.quiescent_ReferenceIdeal (hReferenceIdeal := Cert.ReferenceIdeal.Gen.facts) :=
  fun m ρ _ => (θ_run (Cert.ReferenceIdeal.defs (F := Ideal)) _ _).mono
    (fun _ h => ⟨fun c => (h c).2, funext fun l => nomatch l⟩) (Cert.ReferenceIdeal.Value.run m ρ)

/-- The named constant's literal differs from what it stands for by the rule alone. -/
theorem preserves_p : Cert.preserves_Kernel_KernelIdeal :=
  IdealRules.named_const.statement Cert.KernelIdeal.κ "mask" .f32 0xC61C4000#32 ⊥ rfl

/-- The frame of the idealized kernel, for arguments that satisfy the precondition. -/
theorem frame_pi_pre : Cert.quiescent_KernelIdeal_pre_finite (hKernelIdeal := Cert.KernelIdeal.Gen.facts) (hPre_finite := Cert.Pre_finite.facts) :=
  fun m ρ _ => Cert.KernelIdeal.Gen.frame m ρ

/-- The frame of the reference, for arguments that satisfy the precondition. -/
theorem frame_ri_pre : Cert.quiescent_ReferenceIdeal_pre_finite (hReferenceIdeal := Cert.ReferenceIdeal.Gen.facts) (hPre_finite := Cert.Pre_finite.facts) :=
  fun m ρ _ => frame_ri m ρ trivial

/-- The kernel and the reference compute the same array over the extended reals, for arguments that are finite where the scores need
them: both results are the picture of the attended rows, once with the division last and once by softmax. -/
theorem algebraic_p : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  refine ⟨fun c => Cert.Equal.kres m c, ?_, ?_⟩
  · refine (θ_run (Cert.KernelIdeal.defs (F := Ideal)) _ _).mono ?_
      (θ_run_and (Cert.KernelIdeal.Gen.run_main m g) (Cert.KernelIdeal.Gen.unchanged m g))
    exact fun r h c => ⟨(h.1 c).2 Cert.KernelIdeal.main_v82 (Pipeline.mem_restRefs_of Cert.KernelIdeal.main_v82 (by decide) (by decide)), h.2 c⟩
  · refine (θ_run (Cert.ReferenceIdeal.defs (F := Ideal)) _ _).mono ?_ (Cert.ReferenceIdeal.Value.run m' g')
    intro r h c
    refine ⟨(h c).1.trans ?_, (h c).2⟩
    refine (Cert.ReferenceIdeal.Read.val_main_v140_eq m' c).trans ?_
    obtain ⟨h0, h1, h2, h3, h4, h5, h6, h7, h8⟩ := hargs c
    rw [h0, h1, h2, h3, h4, h5, h6, h7, h8]
    exact Cert.Equal.kres_eq m c _ _ _ _ _ _ _ _ _ rfl (Cert.Pre_finite.finite_args _ _ _ _ _ _ _ _ _ (hpre c))

/-- Everything the certificate claims. -/
theorem claim : Cert.Claim := ⟨Cert.Kernel.Gen.facts, Cert.KernelIdeal.Gen.facts, Cert.ReferenceIdeal.Gen.facts, Cert.Pre_finite.facts,
  frame_p, frame_pi, frame_pi_pre, frame_ri, frame_ri_pre, preserves_p, algebraic_p⟩

end Cert.Proof

end
